-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_maxima_attained_once [hPre_maxima_attained_once : Cert.Pre_maxima_attained_once.Facts] (m : (ℓ : Loc Cert.KernelIdeal.nD Cert.KernelIdeal.τ Cert.KernelIdeal.sig) → Buf (Elt Ideal) ℓ) : Prop :=
  ∀ c : Dev Cert.KernelIdeal.nD,
    (Cert.Pre_maxima_attained_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_maxima_attained_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_maxima_attained_once [hPre_maxima_attained_once : Cert.Pre_maxima_attained_once.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_maxima_attained_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_maxima_attained_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_maxima_attained_once [hKernelIdeal : Cert.KernelIdeal.Facts] [hPre_maxima_attained_once : Cert.Pre_maxima_attained_once.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_maxima_attained_once m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_maxima_attained_once [hReferenceIdeal : Cert.ReferenceIdeal.Facts] [hPre_maxima_attained_once : Cert.Pre_maxima_attained_once.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_maxima_attained_once m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_maxima_attained_once [hKernelIdeal : Cert.KernelIdeal.Facts] [hReferenceIdeal : Cert.ReferenceIdeal.Facts] [hPre_maxima_attained_once : Cert.Pre_maxima_attained_once.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_maxima_attained_once m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_maxima_attained_once : Cert.Pre_maxima_attained_once.Facts),
    quiescent_Kernel (hKernel := hKernel)
    ∧ quiescent_KernelIdeal (hKernelIdeal := hKernelIdeal)
    ∧ quiescent_KernelIdeal_pre_maxima_attained_once (hKernelIdeal := hKernelIdeal) (hPre_maxima_attained_once := hPre_maxima_attained_once)
    ∧ quiescent_ReferenceIdeal (hReferenceIdeal := hReferenceIdeal)
    ∧ quiescent_ReferenceIdeal_pre_maxima_attained_once (hReferenceIdeal := hReferenceIdeal) (hPre_maxima_attained_once := hPre_maxima_attained_once)
    ∧ preserves_Kernel_KernelIdeal
    ∧ algebraic_KernelIdeal_ReferenceIdeal_pre_maxima_attained_once (hKernelIdeal := hKernelIdeal) (hReferenceIdeal := hReferenceIdeal) (hPre_maxima_attained_once := hPre_maxima_attained_once)
-- ==== Pre_maxima_attained_once.lean ====
abbrev S16x32x32x96 : Shape := ⟨4, ![16, 32, 32, 96]⟩
abbrev S16x1024x96 : Shape := ⟨3, ![16, 1024, 96]⟩
abbrev S16x96x1024 : Shape := ⟨3, ![16, 96, 1024]⟩
abbrev S16x1024x1024 : Shape := ⟨3, ![16, 1024, 1024]⟩
abbrev S1024 : Shape := ⟨1, ![1024]⟩
abbrev S_ : Shape := ⟨0, ![]⟩
abbrev S16x1024 : Shape := ⟨2, ![16, 1024]⟩
abbrev S16x1024x1 : Shape := ⟨3, ![16, 1024, 1]⟩
abbrev S1x1x1024 : Shape := ⟨3, ![1, 1, 1024]⟩
abbrev S16x1x1024 : Shape := ⟨3, ![16, 1, 1024]⟩
abbrev S1x1024x1 : Shape := ⟨3, ![1, 1024, 1]⟩

class Facts : Prop where
  shapeCasts_S16x32x32x96_S16x1024x96 : S16x32x32x96.ShapeCasts S16x1024x96
  transposes_S16x1024x96_S16x96x1024_0_2_1 : S16x1024x96.Transposes [0, 2, 1] S16x96x1024
  reducesTo_S16x1024x1024_S16x1024_d2 : S16x1024x1024.ReducesTo [2] S16x1024
  h_S_ : 0 < S_.numel
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d1 : S16x1024x1024.ReducesTo [1] S16x1024
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  bcast_S1024_S1x1024x1_1 : S1024.BroadcastsInDim S1x1024x1 (![1] : Fin 1 → Fin S1x1024x1.rank)
  bcast_S1x1024x1_S16x1024x1024_0_1_2 : S1x1024x1.BroadcastsInDim S16x1024x1024 (![0, 1, 2] : Fin 3 → Fin S16x1024x1024.rank)
  dot_S16x1024x96_S16x96x1024_S16x1024x1024_2_1_1_2_0_0_wf : DotDims.WF S16x1024x96 S16x96x1024 S16x1024x1024 [2] [1] [1] [2] [0] [0]

variable [Facts]

variable {F : FTy → Type} [FloatOps F]
def dot_S16x1024x96_S16x96x1024_S16x1024x1024_2_1_1_2_0_0 : DotDims S16x1024x96 S16x96x1024 S16x1024x1024 where
  lhsContracting := [2]
  rhsContracting := [1]
  lhsNonContracting := [1]
  rhsNonContracting := [2]
  lhsBatch := [0]
  rhsBatch := [0]
  wf := dot_S16x1024x96_S16x96x1024_S16x1024x1024_2_1_1_2_0_0_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S16x1024x1024 .f32) : IVec S16x1024 32 :=
  let v0 : IVec S16x1024x1024 32 := iotaInDim S16x1024x1024 32 2
  let cst : FVec F S_ .f32 := constant S_ .f32 0xFF800000#32
  let c : IVec S_ 32 := constantI S_ 32 0#32
  let v1_0 : FVec F S16x1024 .f32 := (fun x y u v j => (Host.argReduce reducer_argmax_f32_i32 x y u v reducesTo_S16x1024x1024_S16x1024_d2 h_S_ j).1) arg0 v0 cst c
  let v1_1 : IVec S16x1024 32 := (fun x y u v j => (Host.argReduce reducer_argmax_f32_i32 x y u v reducesTo_S16x1024x1024_S16x1024_d2 h_S_ j).2) arg0 v0 cst c
  v1_1

def fn_argmax_0 {F : FTy → Type} [FloatOps F] (arg0 : FVec F S16x1024x1024 .f32) : IVec S16x1024 32 :=
  let v0 : IVec S16x1024x1024 32 := iotaInDim S16x1024x1024 32 1
  let cst : FVec F S_ .f32 := constant S_ .f32 0xFF800000#32
  let c : IVec S_ 32 := constantI S_ 32 0#32
  let v1_0 : FVec F S16x1024 .f32 := (fun x y u v j => (Host.argReduce reducer_argmax_f32_i32 x y u v reducesTo_S16x1024x1024_S16x1024_d1 h_S_ j).1) arg0 v0 cst c
  let v1_1 : IVec S16x1024 32 := (fun x y u v j => (Host.argReduce reducer_argmax_f32_i32 x y u v reducesTo_S16x1024x1024_S16x1024_d1 h_S_ j).2) arg0 v0 cst c
  v1_1

def fn_part1 {F : FTy → Type} [FloatOps F] (main_v15 : IVec S16x1024x1024 1) (main_v19 : IVec S16x1024x1024 1) (main_v20 : IVec S1x1024x1 32) (main_v21 : IVec S16x1024 32) : IVec S16x1024x1024 1 × IVec S16x1024x1024 1 :=
  let main_v22 : IVec S16x1x1024 32 := broadcastInDim S16x1x1024 ![0, 2] bcast_S16x1024_S16x1x1024_0_2 main_v21
  let main_v23 : IVec S16x1024x1024 32 := broadcastInDim S16x1024x1024 ![0, 1, 2] bcast_S1x1024x1_S16x1024x1024_0_1_2 main_v20
  let main_v24 : IVec S16x1024x1024 32 := broadcastInDim S16x1024x1024 ![0, 1, 2] bcast_S16x1x1024_S16x1024x1024_0_1_2 main_v22
  let main_v25 : IVec S16x1024x1024 1 := cmpi .eq main_v23 main_v24
  let main_v26 : IVec S16x1024x1024 1 := ori main_v19 main_v25
  (main_v15, main_v26)

def fn {F : FTy → Type} [FloatOps F] (main_arg0 : FVec F S16x32x32x96 .f32) (main_arg1 : FVec F S16x32x32x96 .f32) : IVec S16x1024x1024 1 × IVec S16x1024x1024 1 :=
  let main_v0 : FVec F S16x1024x96 .f32 := shapeCast S16x1024x96 main_arg0 shapeCasts_S16x32x32x96_S16x1024x96
  let main_v1 : FVec F S16x1024x96 .f32 := shapeCast S16x1024x96 main_arg1 shapeCasts_S16x32x32x96_S16x1024x96
  let main_v2 : FVec F S16x96x1024 .f32 := (transpose S16x96x1024 [0, 2, 1] · transposes_S16x1024x96_S16x96x1024_0_2_1) main_v0
  let main_v3 : FVec F S16x1024x1024 .f32 := (fun l r => Host.dotGeneral dot_S16x1024x96_S16x96x1024_S16x1024x1024_2_1_1_2_0_0 none l r) main_v1 main_v2
  let main_v4 : IVec S1024 32 := iotaInDim S1024 32 0
  let main_cst : FVec F S_ .f32 := constant S_ .f32 0xFF800000#32
  let main_v5 : FVec F S16x1024 .f32 := (fun x v => Host.reduce FloatOps.maximumf x v reducesTo_S16x1024x1024_S16x1024_d2 h_S_) main_v3 main_cst
  let main_v6 : FVec F S16x1024x1 .f32 := broadcastInDim S16x1024x1 ![0, 1] bcast_S16x1024_S16x1024x1_0_1 main_v5
  let main_v7 : FVec F S16x1024x1024 .f32 := broadcastInDim S16x1024x1024 ![0, 1, 2] bcast_S16x1024x1_S16x1024x1024_0_1_2 main_v6
  let main_v8 : IVec S16x1024x1024 1 := cmpf .une main_v3 main_v7
  let main_v9 : IVec S1x1x1024 32 := broadcastInDim S1x1x1024 ![2] bcast_S1024_S1x1x1024_2 main_v4
  let main_v10 : IVec S16x1024 32 := fn_argmax (F := F) main_v3
  let main_v11 : IVec S16x1024x1 32 := broadcastInDim S16x1024x1 ![0, 1] bcast_S16x1024_S16x1024x1_0_1 main_v10
  let main_v12 : IVec S16x1024x1024 32 := broadcastInDim S16x1024x1024 ![0, 1, 2] bcast_S1x1x1024_S16x1024x1024_0_1_2 main_v9
  let main_v13 : IVec S16x1024x1024 32 := broadcastInDim S16x1024x1024 ![0, 1, 2] bcast_S16x1024x1_S16x1024x1024_0_1_2 main_v11
  let main_v14 : IVec S16x1024x1024 1 := cmpi .eq main_v12 main_v13
  let main_v15 : IVec S16x1024x1024 1 := ori main_v8 main_v14
  let main_cst_0 : FVec F S_ .f32 := constant S_ .f32 0xFF800000#32
  let main_v16 : FVec F S16x1024 .f32 := (fun x v => Host.reduce FloatOps.maximumf x v reducesTo_S16x1024x1024_S16x1024_d1 h_S_) main_v3 main_cst_0
  let main_v17 : FVec F S16x1x1024 .f32 := broadcastInDim S16x1x1024 ![0, 2] bcast_S16x1024_S16x1x1024_0_2 main_v16
  let main_v18 : FVec F S16x1024x1024 .f32 := broadcastInDim S16x1024x1024 ![0, 1, 2] bcast_S16x1x1024_S16x1024x1024_0_1_2 main_v17
  let main_v19 : IVec S16x1024x1024 1 := cmpf .une main_v3 main_v18
  let main_v20 : IVec S1x1024x1 32 := broadcastInDim S1x1024x1 ![1] bcast_S1024_S1x1024x1_1 main_v4
  let main_v21 : IVec S16x1024 32 := fn_argmax_0 (F := F) main_v3
  fn_part1 (F := F) main_v15 main_v19 main_v20 main_v21
-- ==== Kernel.lean ====
abbrev S16x32x32x96 : Shape := ⟨4, ![16, 32, 32, 96]⟩
abbrev S16x1024x96 : Shape := ⟨3, ![16, 1024, 96]⟩
abbrev S16x1 : Shape := ⟨2, ![16, 1]⟩
abbrev S4x1024x96 : Shape := ⟨3, ![4, 1024, 96]⟩
abbrev S1x1024x96 : Shape := ⟨3, ![1, 1024, 96]⟩
abbrev S1024x96 : Shape := ⟨2, ![1024, 96]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S1x1 : Shape := ⟨2, ![1, 1]⟩
abbrev S16 : Shape := ⟨1, ![16]⟩

abbrev nBuf : Space → Nat
  | .hbm => 6
  | .vmem => 5
  | .smem => 0
  | _ => 0

abbrev bufTy : (tb : Table) → Fin (tcTables nBuf tb) → BufTy
  | .hbm, ⟨0, _⟩ => ⟨S16x32x32x96, .f32⟩
  | .hbm, ⟨1, _⟩ => ⟨S16x32x32x96, .f32⟩
  | .hbm, ⟨2, _⟩ => ⟨S16x1024x96, .f32⟩
  | .hbm, ⟨3, _⟩ => ⟨S16x1024x96, .f32⟩
  | .hbm, ⟨4, _⟩ => ⟨S16x1, .f32⟩
  | .hbm, ⟨5, _⟩ => ⟨S16, .f32⟩
  | .local _ .vmem, ⟨0, _⟩ => ⟨S4x1024x96, .f32⟩
  | .local _ .vmem, ⟨1, _⟩ => ⟨S4x1024x96, .f32⟩
  | .local _ .vmem, ⟨2, _⟩ => ⟨S4x1024x96, .f32⟩
  | .local _ .vmem, ⟨3, _⟩ => ⟨S4x1024x96, .f32⟩
  | .local _ .vmem, ⟨4, _⟩ => ⟨S16x1, .f32⟩
  | _, _ => ⟨S16x32x32x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 2 → Nat :=
  let arg0 : BitVec 32 := BitVec.ofNat 32 (i 0).val
  let c4_i32 : BitVec 32 := 4#32
  let v42 : BitVec 32 := Scalar.muli arg0 c4_i32
  let v43 : BitVec 32 := Scalar.addi v42 c0_i32
  let v44 : Index := Scalar.indexCast v43
  let c0_21 : Index := 0#32
  ![v44.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16x32x32x96 : Shape := ⟨4, ![16, 32, 32, 96]⟩
abbrev S16x1024x96 : Shape := ⟨3, ![16, 1024, 96]⟩
abbrev S16x96x1024 : Shape := ⟨3, ![16, 96, 1024]⟩
abbrev S16x1024x1024 : Shape := ⟨3, ![16, 1024, 1024]⟩
abbrev S_ : Shape := ⟨0, ![]⟩
abbrev S16x1024 : Shape := ⟨2, ![16, 1024]⟩
abbrev S1024 : Shape := ⟨1, ![1024]⟩
abbrev S16x1024x1 : Shape := ⟨3, ![16, 1024, 1]⟩
abbrev S1x1024 : Shape := ⟨2, ![1, 1024]⟩
abbrev S16 : Shape := ⟨1, ![16]⟩

abbrev nBuf : Space → Nat
  | .hbm => 68
  | .vmem => 0
  | .smem => 0
  | _ => 0

abbrev bufTy : (tb : Table) → Fin (tcTables nBuf tb) → BufTy
  | .hbm, ⟨0, _⟩ => ⟨S16x32x32x96, .f32⟩
  | .hbm, ⟨1, _⟩ => ⟨S16x32x32x96, .f32⟩
  | .hbm, ⟨2, _⟩ => ⟨S16x1024x96, .f32⟩
  | .hbm, ⟨3, _⟩ => ⟨S16x1024x96, .f32⟩
  | .hbm, ⟨4, _⟩ => ⟨S16x96x1024, .f32⟩
  | .hbm, ⟨5, _⟩ => ⟨S16x1024x1024, .f32⟩
  | .hbm, ⟨6, _⟩ => ⟨S16x1024x1024, .i32⟩
  | .hbm, ⟨7, _⟩ => ⟨S_, .f32⟩
  | .hbm, ⟨8, _⟩ => ⟨S_, .i32⟩
  | .hbm, ⟨9, _⟩ => ⟨S16x1024, .f32⟩
  | .hbm, ⟨10, _⟩ => ⟨S16x1024, .i32⟩
  | .hbm, ⟨11, _⟩ => ⟨S16x1024x1024, .i32⟩
  | .hbm, ⟨12, _⟩ => ⟨S_, .f32⟩
  | .hbm, ⟨13, _⟩ => ⟨S_, .i32⟩
  | .hbm, ⟨14, _⟩ => ⟨S16x1024, .f32⟩
  | .hbm, ⟨15, _⟩ => ⟨S16x1024, .i32⟩
  | .hbm, ⟨16, _⟩ => ⟨S1024, .i32⟩
  | .hbm, ⟨17, _⟩ => ⟨S_, .i32⟩
  | .hbm, ⟨18, _⟩ => ⟨S16x1024, .i32⟩
  | .hbm, ⟨19, _⟩ => ⟨S16x1024, .i1⟩
  | .hbm, ⟨20, _⟩ => ⟨S_, .i32⟩
  | .hbm, ⟨21, _⟩ => ⟨S16x1024, .i32⟩
  | .hbm, ⟨22, _⟩ => ⟨S16x1024, .i32⟩
  | .hbm, ⟨23, _⟩ => ⟨S16x1024, .i32⟩
  | .hbm, ⟨24, _⟩ => ⟨S16x1024x1, .i32⟩
  | .hbm, ⟨25, _⟩ => ⟨S16x1024, .i32⟩
  | .hbm, ⟨26, _⟩ => ⟨S1x1024, .i32⟩
  | .hbm, ⟨27, _⟩ => ⟨S16x1024, .i32⟩
  | .hbm, ⟨28, _⟩ => ⟨S16x1024, .i1⟩
  | .hbm, ⟨29, _⟩ => ⟨S16x1024, .i32⟩
  | .hbm, ⟨30, _⟩ => ⟨S_, .i32⟩
  | .hbm, ⟨31, _⟩ => ⟨S16, .i32⟩
  | .hbm, ⟨32, _⟩ => ⟨S_, .i32⟩
  | .hbm, ⟨33, _⟩ => ⟨S16x1024, .i32⟩
  | .hbm, ⟨34, _⟩ => ⟨S16x1024, .i1⟩
  | .hbm, ⟨35, _⟩ => ⟨S_, .i32⟩
  | .hbm, ⟨36, _⟩ => ⟨S16x1024, .i32⟩
  | .hbm, ⟨37, _⟩ => ⟨S16x1024, .i32⟩
  | .hbm, ⟨38, _⟩ => ⟨S16x1024, .i32⟩
  | .hbm, ⟨39, _⟩ => ⟨S16x1024x1, .i32⟩
  | .hbm, ⟨40, _⟩ => ⟨S16x1024x96, .f32⟩
  | .hbm, ⟨41, _⟩ => ⟨S16x1024x96, .f32⟩
  | .hbm, ⟨42, _⟩ => ⟨S_, .f32⟩
  | .hbm, ⟨43, _⟩ => ⟨S16x1024, .f32⟩
  | .hbm, ⟨44, _⟩ => ⟨S_, .f32⟩
  | .hbm, ⟨45, _⟩ => ⟨S_, .f32⟩
  | .hbm, ⟨46, _⟩ => ⟨S1024, .f32⟩
  | .hbm, ⟨47, _⟩ => ⟨S16x1024, .f32⟩
  | .hbm, ⟨48, _⟩ => ⟨S16x1024, .f32⟩
  | .hbm, ⟨49, _⟩ => ⟨S_, .f32⟩
  | .hbm, ⟨50, _⟩ => ⟨S16, .f32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S16, .f32⟩
  | .hbm, ⟨55, _⟩ => ⟨S16, .f32⟩
  | .hbm, ⟨56, _⟩ => ⟨S16x1024x96, .f32⟩
  | .hbm, ⟨57, _⟩ => ⟨S_, .f32⟩
  | .hbm, ⟨58, _⟩ => ⟨S16x1024, .f32⟩
  | .hbm, ⟨59, _⟩ => ⟨S_, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .i32⟩
  | .hbm, ⟨65, _⟩ => ⟨S16, .i32⟩
  | .hbm, ⟨66, _⟩ => ⟨S16, .i1⟩
  | .hbm, ⟨67, _⟩ => ⟨S16, .f32⟩
  | _, _ => ⟨S16x32x32x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_c : Ref sig .tc := ⟨.hbm, 8, rfl⟩
abbrev main_call0_v1_0 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_c : Ref sig .tc := ⟨.hbm, 13, rfl⟩
abbrev main_call1_v1_0 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_v27 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Proof.KBody.lean ====
/- The body, at one grid point: it reads four batches of each feature map and writes four rows of the output block, one
   number a batch. The number is kept as `score1` of the batch's two maps; what it is over the extended reals is said in
   another module. -/
module

public import proofs.«01_k».proof.Proof.Gen.KernelIdeal.Frame
public import proofs.«01_k».proof.Proof.Gen.KernelIdeal.Skeleton
public import Idealize.ShloMosaic.Lib.WritesUnit

@[expose] public section

set_option maxRecDepth 16384

noncomputable section

namespace Cert.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Batch `j` of a block of four. -/
def lane (x : Vec F S4x1024x96 .f32) (j : Fin 4) : Vec F S1x1024x96 .f32 := fun k =>
  x fun a => match a with
    | ⟨0, _⟩ => j
    | ⟨1, _⟩ => k 1
    | ⟨2, _⟩ => k 2

/-- The only position of a one-by-one array. -/
def cell0 : S1x1.Idx := fun a => match a with
  | ⟨0, _⟩ => (0 : Fin 1)
  | ⟨1, _⟩ => (0 : Fin 1)

/-- One batch's number, from its two feature maps. -/
def score1 (q p : Vec F S1x1024x96 .f32) : FVec F S1x1 .f32 := k0_pay1 (k0_pay23 p q) (k0_pay24 q) p

/-- The output block after a visit at grid point `i`: the four rows of the visit hold the batches' numbers, every other
    row is as it was found. -/
def visit (i : grid0.Coords) (x0 x1 : Vec F S4x1024x96 .f32) (y : Vec F S16x1 .f32) : Vec F S16x1 .f32 := fun r =>
  if h : (r 0).val - 4 * (i 0).val < 4 ∧ 4 * (i 0).val ≤ (r 0).val then
    score1 (lane x0 ⟨(r 0).val - 4 * (i 0).val, h.1⟩) (lane x1 ⟨(r 0).val - 4 * (i 0).val, h.1⟩) cell0
  else y r

/-- A load of batch `j` of a block of four reads that batch. -/
theorem load_lane (arg : Memref sig .tc .vmem S4x1024x96 .f32) (harg : arg.IsWhole) (x : Vec F S4x1024x96 .f32) (j : Fin 4)
    (inb : ∀ a, (![j.val, 0, 0] : Fin 3 → ℕ) a + (![1, 1024, 96] : Fin 3 → ℕ) a ≤ S4x1024x96.size a) :
    View.readAt (Elt F) arg.view (Rect.unit (s := S4x1024x96) ![j.val, 0, 0] ![1, 1024, 96] inb).toLoadRect (harg.unread x)
      = lane x j := by
  funext k
  rw [View.readAt_apply, harg.read_unread]
  unfold lane
  congr 1
  funext a
  have h0 : (k 0).val < 1 := (k 0).isLt
  apply Fin.ext
  fin_cases a
  · show j.val + 1 * (k 0).val = j.val
    omega
  · show 0 + 1 * (k 1).val = (k 1).val
    omega
  · show 0 + 1 * (k 2).val = (k 2).val
    omega

/-- The row a store of batch `j` writes at grid point `i`. -/
theorem off_eq : ∀ (i : grid0.Coords) (j : Fin 4), k0_off1 i (BitVec.ofNat 32 j.val) = ![4 * (i 0).val + j.val, 0] := by
  decide +kernel

set_option maxHeartbeats 1000000 in
/-- Run at grid point `i` on any contents of its three buffers, the body leaves the two inputs as they were and the output
    block as `visit` describes. -/
theorem body_run (c : Dev nD) (i : grid0.Coords) (arg1 : Memref sig .tc .vmem S4x1024x96 .f32) (harg1 : arg1.IsWhole) (arg2 : Memref sig .tc .vmem S4x1024x96 .f32) (harg2 : arg2.IsWhole) (arg3 : Memref sig .tc .vmem S16x1 .f32) (harg3 : arg3.IsWhole)
    (x0 : Vec F S4x1024x96 .f32) (x1 : Vec F S4x1024x96 .f32) (y : Vec F S16x1 .f32) :
      ∀ (E : Set ℕ) (K : PUnit → sProp 𝕄),
        iprop(owns (c : Thread nD τ) arg1 fullShare x0 ∗ owns (c : Thread nD τ) arg2 fullShare x1 ∗ owns (c : Thread nD τ) arg3 fullShare y
            ∗ (iprop(owns (c : Thread nD τ) arg1 fullShare x0 ∗ owns (c : Thread nD τ) arg2 fullShare x1 ∗ owns (c : Thread nD τ) arg3 fullShare (visit i x0 x1 y)) -∗ K ⟨⟩))
          ⊢ wp frame (wpE (defs₀ (F := F)) Variants.none c none) E (cc0__loss_kernel i arg1 harg1 arg2 harg2 arg3 harg3) K := by
    intro E K
    simp only [cc0__loss_kernel_eq_skeleton]; unfold cc0__loss_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    funext r
    have hr : (r 1).val < 1 := (r 1).isLt
    have hi : (i 0).val < 4 := (i 0).isLt
    have o0 : k0_off1 i 0#32 = ![4 * (i 0).val + 0, 0] := off_eq i 0
    have o1 : k0_off1 i 1#32 = ![4 * (i 0).val + 1, 0] := off_eq i 1
    have o2 : k0_off1 i 2#32 = ![4 * (i 0).val + 2, 0] := off_eq i 2
    have o3 : k0_off1 i 3#32 = ![4 * (i 0).val + 3, 0] := off_eq i 3
    have e00 : View.readAt (Elt F) arg1.view (Rect.unit (s := S4x1024x96) ![0, 0, 0] ![1, 1024, 96] inb_S4x1024x96_S1x1024x96_0_0_0).toLoadRect (harg1.unread x0) = lane x0 0 :=
      load_lane arg1 harg1 x0 0 _
    have e01 : View.readAt (Elt F) arg1.view (Rect.unit (s := S4x1024x96) ![1, 0, 0] ![1, 1024, 96] inb_S4x1024x96_S1x1024x96_1_0_0).toLoadRect (harg1.unread x0) = lane x0 1 :=
      load_lane arg1 harg1 x0 1 _
    have e02 : View.readAt (Elt F) arg1.view (Rect.unit (s := S4x1024x96) ![2, 0, 0] ![1, 1024, 96] inb_S4x1024x96_S1x1024x96_2_0_0).toLoadRect (harg1.unread x0) = lane x0 2 :=
      load_lane arg1 harg1 x0 2 _
    have e03 : View.readAt (Elt F) arg1.view (Rect.unit (s := S4x1024x96) ![3, 0, 0] ![1, 1024, 96] inb_S4x1024x96_S1x1024x96_3_0_0).toLoadRect (harg1.unread x0) = lane x0 3 :=
      load_lane arg1 harg1 x0 3 _
    have e10 : View.readAt (Elt F) arg2.view (Rect.unit (s := S4x1024x96) ![0, 0, 0] ![1, 1024, 96] inb_S4x1024x96_S1x1024x96_0_0_0).toLoadRect (harg2.unread x1) = lane x1 0 :=
      load_lane arg2 harg2 x1 0 _
    have e11 : View.readAt (Elt F) arg2.view (Rect.unit (s := S4x1024x96) ![1, 0, 0] ![1, 1024, 96] inb_S4x1024x96_S1x1024x96_1_0_0).toLoadRect (harg2.unread x1) = lane x1 1 :=
      load_lane arg2 harg2 x1 1 _
    have e12 : View.readAt (Elt F) arg2.view (Rect.unit (s := S4x1024x96) ![2, 0, 0] ![1, 1024, 96] inb_S4x1024x96_S1x1024x96_2_0_0).toLoadRect (harg2.unread x1) = lane x1 2 :=
      load_lane arg2 harg2 x1 2 _
    have e13 : View.readAt (Elt F) arg2.view (Rect.unit (s := S4x1024x96) ![3, 0, 0] ![1, 1024, 96] inb_S4x1024x96_S1x1024x96_3_0_0).toLoadRect (harg2.unread x1) = lane x1 3 :=
      load_lane arg2 harg2 x1 3 _
    unfold visit
    by_cases h3 : (r 0).val = 4 * (i 0).val + 3
    · refine (View.read_writes_cons_unit_of_mem (off' := ![4 * (i 0).val + 3, 0]) _ _ _ _ _ r cell0 o3 (by
        intro a; fin_cases a
        · exact h3
        · show (r 1).val = 0; omega)).trans ?_
      have hj : (r 0).val - 4 * (i 0).val = 3 := by omega
      rw [dif_pos (by omega)]
      simp only [hj]
      unfold body_run.sl.r_11 body_run.sl.r_12
      rw [e13, e03]
      rfl
    refine (View.read_writes_cons_unit_of_not_mem (off' := ![4 * (i 0).val + 3, 0]) _ _ _ _ _ r o3 0 (by
      show (r 0).val < 4 * (i 0).val + 3 ∨ 4 * (i 0).val + 3 + 1 ≤ (r 0).val; omega)).trans ?_
    by_cases h2 : (r 0).val = 4 * (i 0).val + 2
    · refine (View.read_writes_cons_unit_of_mem (off' := ![4 * (i 0).val + 2, 0]) _ _ _ _ _ r cell0 o2 (by
        intro a; fin_cases a
        · exact h2
        · show (r 1).val = 0; omega)).trans ?_
      have hj : (r 0).val - 4 * (i 0).val = 2 := by omega
      rw [dif_pos (by omega)]
      simp only [hj]
      unfold body_run.sl.r_7 body_run.sl.r_8 body_run.sl.r_9 body_run.sl.r_10
      rw [e12, e02]
      rfl
    refine (View.read_writes_cons_unit_of_not_mem (off' := ![4 * (i 0).val + 2, 0]) _ _ _ _ _ r o2 0 (by
      show (r 0).val < 4 * (i 0).val + 2 ∨ 4 * (i 0).val + 2 + 1 ≤ (r 0).val; omega)).trans ?_
    by_cases h1 : (r 0).val = 4 * (i 0).val + 1
    · refine (View.read_writes_cons_unit_of_mem (off' := ![4 * (i 0).val + 1, 0]) _ _ _ _ _ r cell0 o1 (by
        intro a; fin_cases a
        · exact h1
        · show (r 1).val = 0; omega)).trans ?_
      have hj : (r 0).val - 4 * (i 0).val = 1 := by omega
      rw [dif_pos (by omega)]
      simp only [hj]
      unfold body_run.sl.r_3 body_run.sl.r_4 body_run.sl.r_5 body_run.sl.r_6
      rw [e11, e01]
      rfl
    refine (View.read_writes_cons_unit_of_not_mem (off' := ![4 * (i 0).val + 1, 0]) _ _ _ _ _ r o1 0 (by
      show (r 0).val < 4 * (i 0).val + 1 ∨ 4 * (i 0).val + 1 + 1 ≤ (r 0).val; omega)).trans ?_
    by_cases h0 : (r 0).val = 4 * (i 0).val
    · refine (View.read_writes_cons_unit_of_mem (off' := ![4 * (i 0).val + 0, 0]) _ _ _ _ _ r cell0 o0 (by
        intro a; fin_cases a
        · exact h0
        · show (r 1).val = 0; omega)).trans ?_
      have hj : (r 0).val - 4 * (i 0).val = 0 := by omega
      rw [dif_pos (by omega)]
      simp only [hj]
      unfold body_run.sl.r body_run.sl.r_1 body_run.sl.r_2
      rw [e10, e00]
      rfl
    refine (View.read_writes_cons_unit_of_not_mem (off' := ![4 * (i 0).val + 0, 0]) _ _ _ _ _ r o0 0 (by
      show (r 0).val < 4 * (i 0).val + 0 ∨ 4 * (i 0).val + 0 + 1 ≤ (r 0).val; omega)).trans ?_
    rw [View.writes_nil, hf2, dif_neg (by omega)]

end Cert.KBody

end
-- ==== Proof.KLaunch.lean ====
/- The launch of a kernel whose result array is described by a RELATION (which contents it may end with), together with
   the host lines that follow the kernel: they are evaluated on whichever contents the arrays ended with, so that a
   buffer computed by those lines is described by the same relation. -/
module

public import Idealize.ShloMosaic.Lib.Pipeline.FrameSuffix

@[expose] public section

noncomputable section

namespace Cert.KLaunch

open Idealize.ShloMosaic Idealize.ShloMosaic.TcCoe Idealize.ShloMosaic.Pipeline Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (pcs : P → PCfg sig Λ₀ Val) (a : (p : P) → (pcs p).Adm) (p : P)
  (kit₀ : PLaunchFacts₀ (nD := nD) (τ := τ) pcs p) (defs₀ : Defs nD τ sig Val Λ₀) (𝒱₀ : Variants)

/-- "The arrays after every write-back" means: for some contents allowed by the relation, the arrays hold them. -/
theorem arrays_open (c : Dev nD) (rd : RDat τ Val Unit ℕ (UR sig nD τ) ℕ (pin pcs a p) c) (n : Nat) :
    (rd.arraysAt n : sProp 𝕄) ⊢ iprop(∃ A, ⌜∀ w, rd.ArrAt w n (A w)⌝ ∗ rd.arrays A) := by
  unfold RDat.arraysAt RDat.arrays
  refine (BI.bigSep_exists_pi Finset.univ (fun w G => iprop(⌜rd.ArrAt w n G⌝
    ∗ ((pin pcs a p).win w).arr.view.loc (c.tc : Thread nD τ) ↦[((pin pcs a p).win w).arr.view.set]{rd.share w} G))).trans ?_
  iintro ⟨%A, H⟩
  ihave H' := (BI.bigSep_pure_sep Finset.univ (fun w => rd.ArrAt w n (A w))
    (fun w => ((pin pcs a p).win w).arr.view.loc (c.tc : Thread nD τ) ↦[((pin pcs a p).win w).arr.view.set]{rd.share w} A w)) $$ H
  icases H' with ⟨%hall, H⟩
  iexists A
  isplitr
  · ipureintro; exact fun w => hall w (Finset.mem_univ w)
  · iexact H

/-- And conversely: arrays holding allowed contents are "the arrays after every write-back". -/
theorem arrays_close (c : Dev nD) (rd : RDat τ Val Unit ℕ (UR sig nD τ) ℕ (pin pcs a p) c) (n : Nat)
    (A : (w : Fin (pin pcs a p).W) → Buf Val (((pin pcs a p).win w).arr.view.loc (c.tc : Thread nD τ)))
    (hall : ∀ w, rd.ArrAt w n (A w)) :
    (rd.arrays A : sProp 𝕄) ⊢ rd.arraysAt n := by
  unfold RDat.arraysAt RDat.arrays
  refine BI.bigSep_mono fun w _ => ?_
  show (((pin pcs a p).win w).arr.view.loc (c.tc : Thread nD τ) ↦[((pin pcs a p).win w).arr.view.set]{rd.share w} A w : sProp 𝕄)
    ⊢ iprop(∃ G, ⌜rd.ArrAt w n G⌝ ∗ ((pin pcs a p).win w).arr.view.loc (c.tc : Thread nD τ) ↦[((pin pcs a p).win w).arr.view.set]{rd.share w} G)
  iintro H
  iexists (A w)
  isplitr
  · ipureintro; exact hall w
  · iexact H

/-- What a run ends with: some array contents `A` allowed by the relation, every other unscoped buffer as the host lines
    after the kernel compute it from `A` and the entry contents, and every counter back at zero. -/
def Ends (rdat : (c : Dev nD) → RDat τ Val Unit ℕ (UR sig nD τ) ℕ (pin pcs a p) c) (V₀ : Dev nD → Valuation τ sig Val)
    (opss : List (List (HloOp τ sig Val))) (r : PUnit × MemSt nD τ sig Val) : Prop :=
  (∀ c : Dev nD, ∃ A, (∀ w, (rdat c).ArrAt w (pin pcs a p).N (A w))
    ∧ ∀ b ∈ restRefsP sig (pcs p).pre (pin pcs a p).spec, r.2.mem ((c.tc : Thread nD τ).loc b)
        = StableHlo.after opss.flatten (withArrays (pin pcs a p).spec c (V₀ c) A) (Proc.devRef .tc b))
  ∧ r.2.sem = fun _ => 0

include kit₀ in
/-- THE LAUNCH. -/
theorem run (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w)
    (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g) (Ends pcs a p rdat V₀ opss) := by
  classical
  refine RDat.θ_run_region_pf_tail_quiescent pcs a (RDat.familyOf pcs a p rdat) () (kit₀.cellOf_inj a) p kit₀.win
    (OwnSemFacts.none (pin pcs a p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs a) (kit₀.cellOf_inj a)) (launchToks (pin pcs a) (kit₀.cellOf_inj a)))
    (hu₀ := ?hu) (V := fun c b => V₀ c (Proc.devRef .tc b)) (hmain := hmain) (hsplit := ?hs) (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c
      (fun b => V₀ c (Proc.devRef .tc b)))
    (Z' := fun c => iprop(∃ A, ⌜∀ w, (rdat c).ArrAt w (pin pcs a p).N (A w)⌝
      ∗ unscopedRestP (Ix := Unit) (Name := ℕ) (U := UR sig nD τ) (Lvl := ℕ) (pcs p).pre (pin pcs a p).spec c
          (fun b => StableHlo.after opss.flatten (withArrays (pin pcs a p).spec c (V₀ c) A) (Proc.devRef .tc b))))
    (hX := ?hX) (hin := ?hi) (hout := ?ho) (htail := ?ht)
    (QY := fun c s => ∃ A, (∀ w, (rdat c).ArrAt w (pin pcs a p).N (A w))
      ∧ ∀ b ∈ restRefsP sig (pcs p).pre (pin pcs a p).spec, s.mem ((c.tc : Thread nD τ).loc b)
        = StableHlo.after opss.flatten (withArrays (pin pcs a p).spec c (V₀ c) A) (Proc.devRef .tc b))
    (hY := ?hY) (hQ := fun s h hz => ⟨fun c => (h c).2.2, hz⟩)
  case hu =>
    iintro Hu; imodintro
    isplitl [Hu]
    · iapply (show (ownU _ : sProp 𝕄) ⊢ BI.own (emb₁ (initOf (cells (pin pcs a) (kit₀.cellOf_inj a)) (launchToks (pin pcs a) (kit₀.cellOf_inj a)))) from .rfl)
      iexact Hu
    · iapply (show (BI.emp : sProp 𝕄) ⊢ bigSep Finset.univ (fun _ : Dev nD => (BI.emp : sProp 𝕄)) from by rw [BI.bigSep_emp_const])
      iempintro
  case hs =>
    intro c
    rw [RDat.familyOf_self]
    exact (rdat c).arrays_split_shared kit₀.sharedIn kit₀.arr_whole (hq c) _ _ (hA c)
  case hX =>
    intro c
    iintro ⟨HU, -, -, Hp, -⟩; imodintro
    isplitl [Hp]
    · iexists _; iexact Hp
    · iexact HU
  case hi =>
    intro c
    rw [RDat.familyOf_self]
    refine BIBase.Entails.trans ?_ (hin c)
    unfold ΦA ΦT
    iintro ⟨Hp, Ht, Hr⟩
    isplitr [Ht]
    · isplitl [Hr] <;> iassumption
    · iexact Ht
  case ho =>
    intro c
    rw [RDat.familyOf_self]
    refine (hout c).trans ?_
    rw [ownSems0_none]; unfold ΦA
    iintro ⟨Hr, Hp⟩
    isplitl [Hp]; · iexact Hp
    isplitr; · iempintro
    iexact Hr
  case ht =>
    intro c Q'
    rw [RDat.familyOf_self]
    iintro ⟨Hk, Hb, Ha, HZ⟩
    ihave Ha' := (arrays_open pcs a p c (rdat c) (pin pcs a p).N) $$ Ha
    icases Ha' with ⟨%A, %hall, Ha⟩
    have hB : (rdat c).arrays A = arrBufs (pin pcs a p).spec c (fun b => withArrays (pin pcs a p).spec c (V₀ c) A (Proc.devRef .tc b)) :=
      ((rdat c).arrBufs_eq_arrays kit₀.sharedIn kit₀.arr_whole (hq c) _ A fun w =>
        (withArrays_arr_shared (pin pcs a p).spec c (V₀ c) A
          ((rdat c).ArrAt_sharedIn kit₀.sharedIn (V₀ c) (hA c) (pin pcs a p).N A hall) w).symm).symm
    iapply (tail_seqs_bufs_b pcs defs₀ 𝒱₀ (pcs p).pre (pin pcs a p).spec c (V₀ c) A opss hsub hfresh hkeep Q')
    isplitl [Hk]
    · iintro ⟨Hb2, Ha2, Hu⟩
      iapply Hk
      isplitl [Hb2]; · iexact Hb2
      isplitl [Ha2]
      · iapply (arrays_close pcs a p c (rdat c) (pin pcs a p).N A hall)
        iapply (Entails.of_eq hB.symm)
        iexact Ha2
      iexists A
      isplitr
      · ipureintro; exact hall
      · iexact Hu
    · isplitl [Hb]; · iexact Hb
      isplitl [Ha]
      · iapply (Entails.of_eq hB); iexact Ha
      · iexact HZ
  case hY =>
    intro c s'
    iintro ⟨-, HZ, HSI⟩
    icases HZ with ⟨%A, %hall, HZ⟩
    unfold unscopedRestP
    ihave HZ' := (pointsTo_read_all (restRefsP sig (pcs p).pre (pin pcs a p).spec) (fun b => (c.tc : Thread nD τ).loc b)
      (fun b => StableHlo.after opss.flatten (withArrays (pin pcs a p).spec c (V₀ c) A) (Proc.devRef .tc b)) s') $$ [HZ HSI]
    · isplitl [HZ] <;> iassumption
    icases HZ' with ⟨%hZ, HSI⟩
    imodintro
    isplitr
    · ipureintro; exact ⟨A, hall, hZ⟩
    · iexact HSI

end Cert.KLaunch

end
-- ==== Proof.KRun.lean ====
/- The run of the kernel: it ends with the sixteen numbers, one per batch, in the result array, the arguments as they
   were, and every counter at zero. The result window is flushed once, after the last of the four grid points, so its
   buffer is described between the points by a relation: after point `t` its first `4*(t+1)` rows hold those batches'
   numbers, and nothing is said of the others. -/
module

public import proofs.«01_k».proof.Proof.KBody
public import proofs.«01_k».proof.Proof.KLaunch
public import Idealize.ShloMosaic.Lib.Pipeline.ArrRel
public import Idealize.ShloMosaic.Lib.Pipeline.DatRel
public import Idealize.ShloMosaic.Lib.Pipeline.ValueKit
public import Idealize.ShloMosaic.Lib.Claim

@[expose] public section

set_option maxRecDepth 16384

noncomputable section

namespace Cert.KRun

open Cert.KernelIdeal Cert.KernelIdeal.Gen Cert.KBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Batch `n` of the sixteen. -/
def batch (X : Vec F S16x1024x96 .f32) (n : Fin 16) : Vec F S1x1024x96 .f32 := fun k =>
  X fun a => match a with
    | ⟨0, _⟩ => n
    | ⟨1, _⟩ => k 1
    | ⟨2, _⟩ => k 2

/-- The sixteen numbers as a column. -/
def column (Q P : Vec F S16x1024x96 .f32) : Vec F S16x1 .f32 := fun r =>
  score1 (batch Q (r 0)) (batch P (r 0)) cell0

/-- The grid's one coordinate at point `t` is `t`. -/
theorem coord0 (t : Fin cfg0.N) : (grid0.coords t 0).val = t.val := by
  rcases fin_N0 t with rfl | rfl | rfl | rfl <;> rfl

/-- Batch `j` of the first operand's block at point `t` is batch `4*t+j`. -/
theorem lane_blk0 (c : Dev nD) (t : Fin cfg0.N) (j : Fin 4) (n : Fin 16) (hn : n.val = 4 * t.val + j.val) :
    lane (iblk m c 0 t : Vec F S4x1024x96 .f32) j = batch (V m c main_v0) n := by
  have hi : win0_0.index t 0 = t.val ∧ win0_0.index t 1 = 0 ∧ win0_0.index t 2 = 0 := by
    rcases fin_N0 t with rfl | rfl | rfl | rfl <;> decide
  funext k
  unfold lane batch iblk
  rw [View.read_apply]
  show V m c main_v0 _ = V m c main_v0 _
  congr 1
  funext a
  apply Fin.ext
  match a with
  | ⟨0, _⟩ => show win0_0.index t 0 * 4 + 1 * j.val = n.val; rw [hi.1]; omega
  | ⟨1, _⟩ => show win0_0.index t 1 * 1024 + 1 * (k 1).val = (k 1).val; rw [hi.2.1]; omega
  | ⟨2, _⟩ => show win0_0.index t 2 * 96 + 1 * (k 2).val = (k 2).val; rw [hi.2.2]; omega

/-- The same of the second operand. -/
theorem lane_blk1 (c : Dev nD) (t : Fin cfg0.N) (j : Fin 4) (n : Fin 16) (hn : n.val = 4 * t.val + j.val) :
    lane (iblk m c 1 t : Vec F S4x1024x96 .f32) j = batch (V m c main_v1) n := by
  have hi : win0_1.index t 0 = t.val ∧ win0_1.index t 1 = 0 ∧ win0_1.index t 2 = 0 := by
    rcases fin_N0 t with rfl | rfl | rfl | rfl <;> decide
  funext k
  unfold lane batch iblk
  rw [View.read_apply]
  show V m c main_v1 _ = V m c main_v1 _
  congr 1
  funext a
  apply Fin.ext
  match a with
  | ⟨0, _⟩ => show win0_1.index t 0 * 4 + 1 * j.val = n.val; rw [hi.1]; omega
  | ⟨1, _⟩ => show win0_1.index t 1 * 1024 + 1 * (k 1).val = (k 1).val; rw [hi.2.1]; omega
  | ⟨2, _⟩ => show win0_1.index t 2 * 96 + 1 * (k 2).val = (k 2).val; rw [hi.2.2]; omega

/-! ## The proof data -/

/-- The exact part: the two operands' buffers hold their blocks after every point; the result's is left to the relation. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- The result window is the one under the relation. -/
def fgt : Fin 3 → Bool := fun w => w.val == 2

/-- The rows already visited hold their batches' numbers. -/
def filled (c : Dev nD) (n : ℕ) (X : Vec F S16x1 .f32) : Prop :=
  ∀ r : S16x1.Idx, (r 0).val < n → X r = column (V m c main_v0) (V m c main_v1) r

/-- The relation of the result window. -/
def rel (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, X => filled m c (4 * (t.val + 1)) X

/-- The relational proof data. -/
def rdat (c : Dev nD) : RDat τ (Elt F) Unit ℕ (UR sig nD τ) ℕ cfg0 c := (dat m c).toRRel fgt (rel m c)

/-- Every window starts from the array as the host lines before the launch leave it. -/
theorem A_eq (c : Dev nD) (w : Fin cfg0.W) : (dat m c).A w = V m c (Pipeline.arrRef spec0 w) := by
  dsimp only [dat]

/-- The body leaves the first input block in place. -/
theorem after_0 (c : Dev nD) (t : Fin cfg0.N) : (dat m c).after 0 t = iblk m c 0 t := by dsimp only [dat]
/-- The body leaves the second input block in place. -/
theorem after_1 (c : Dev nD) (t : Fin cfg0.N) : (dat m c).after 1 t = iblk m c 1 t := by dsimp only [dat]

/-- The body finds the first map's four batches of the point. -/
theorem before_0 (c : Dev nD) (t : Fin cfg0.N) (d) : (dat m c).before 0 t d = iblk m c 0 t :=
  before0_0_of m (dat m c) (A_eq m c 0) (after_0 m c) t d
/-- The body finds the second map's four batches of the point. -/
theorem before_1 (c : Dev nD) (t : Fin cfg0.N) (d) : (dat m c).before 1 t d = iblk m c 1 t :=
  before0_1_of m (dat m c) (A_eq m c 1) (after_1 m c) t d

/-- What the body finds in the result's buffer: the rows of the earlier points filled. -/
theorem found (c : Dev nD) (t : Fin cfg0.N) (Y : (cfg0.win 2).block.Idx → Elt F (cfg0.win 2).elt)
    (h : (rdat m c).Finds 2 t Y) : filled m c (4 * t.val) Y := by
  by_cases ht : t.val = 0
  · intro r hr; omega
  · have hfe : (cfg0.win 2).fetch t = false := (cfg0.win 2).fetch_out rfl t
    rcases ((rdat m c).finds_of_pos hfe ht Y).mp h with hfl | hl
    · have h3 := (flush0_2 _).mp hfl
      have := t.isLt
      have hN : cfg0.N = 4 := N_0
      simp only at h3
      omega
    · have hrel : rel m c 2 _ Y := (dat m c).toRRel_leaves (fgt := fgt) (Rl := rel m c) (w := 2) rfl hl
      intro r hr
      refine hrel r ?_
      show (r 0).val < 4 * (t.val - 1 + 1)
      omega

/-- What the body leaves there: four more rows filled. -/
theorem left (c : Dev nD) (t : Fin cfg0.N) (Y : Vec F S16x1 .f32) (h : filled m c (4 * t.val) Y) :
    filled m c (4 * (t.val + 1)) (visit (grid0.coords t) (iblk m c 0 t) (iblk m c 1 t) Y) := by
  intro r hr
  have e := coord0 t
  by_cases hm : (r 0).val - 4 * (grid0.coords t 0).val < 4 ∧ 4 * (grid0.coords t 0).val ≤ (r 0).val
  · unfold visit column
    rw [dif_pos hm, lane_blk0 m c t _ (r 0) (by show (r 0).val = 4 * t.val + ((r 0).val - 4 * (grid0.coords t 0).val); omega),
      lane_blk1 m c t _ (r 0) (by show (r 0).val = 4 * t.val + ((r 0).val - 4 * (grid0.coords t 0).val); omega)]
  · unfold visit
    rw [dif_neg hm]
    exact h r (by omega)

/-! ## The body obligation -/

/-- What the body is called with. -/
def pre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ Y, ⌜(rdat m c).Finds 2 t Y⌝ ∗ owns (c : Thread nD τ) (st0_2 t) fullShare Y))

/-- What it returns. -/
def post (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ (∃ X, ⌜rel m c 2 t X⌝ ∗ owns (c : Thread nD τ) (st0_2 t) fullShare X))

/-- The body, at point `t`, takes what holds before the point to what holds after it. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dat m c).Φ t.succ = (dat m c).Φ t.castSucc from rfl,
    show (dat m c).owesAt () t.succ = (dat m c).owesAt () t.castSucc from rfl, after_0, after_1]
  iintro ⟨HΦ, Ho, ⟨%d0, H0⟩, ⟨%d1, H1⟩, ⟨%Y, %hY, H2⟩⟩
  iapply ((body_run c (grid0.coords t) _ _ _ _ _ _ (iblk m c 0 t) (iblk m c 1 t) Y) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexists _
  isplitr
  · ipureintro; exact left m c t Y (found m c t Y hY)
  · iexact H2

/-- The launch runs the body on the buffers of the point. -/
theorem row (t : Fin cfg0.N) :
    defs₀ (F := F) .tc cfg0.body (cfg0.bodyArgs t (cfg0.slots t)) = bodyAt0 t := by
  unfold defs₀; rw [Defs.onTc_tc]

/-- Every point of the grid meets the condition that the launch asks of its body. -/
theorem obligation (c : Dev nD) :
    BodyObligationRel (dat (F := F) m c) (defs₀ (F := F)) Variants.none () Set.univ fgt (rel m c) := fun t => by
  rw [bigSep_W0, bigSep_W0, row]
  exact triple_restated (sound m c t) rfl .rfl fun _ => .rfl

/-! ## The run -/

/-- The one write-back, after the last point, is of the whole result array. -/
theorem whole2 : (cfg0.win 2).WholeAt (t0_3 : Fin cfg0.N) := by decide +kernel

/-- So the result array ends as the column of the sixteen numbers. -/
theorem final (c : Dev nD) (G : Buf (Elt F) (((cfg0.win 2).arr.view.loc (c.tc : Thread nD τ))))
    (hG : (rdat m c).ArrAt 2 cfg0.N G) : (G : Vec F S16x1 .f32) = column (V m c main_v0) (V m c main_v1) := by
  obtain ⟨X, hX, hE⟩ := hG.emb_eq_of_wholeAt whole2
  have hrel : rel m c 2 _ X := (dat m c).toRRel_leaves (fgt := fgt) (Rl := rel m c) (w := 2) rfl hX
  funext j
  refine (hE j).trans (hrel j ?_)
  have : (j 0).val < 16 := (j 0).isLt
  exact this

set_option backward.isDefEq.respectTransparency.types false in
set_option maxHeartbeats 800000 in
/-- The launch, at this kernel. -/
theorem launched : θ_run defs (onTc (τ := τ) (main (F := F))) (s₀ m ρ)
    (KLaunch.Ends (fun q => (cfgs q).toPCfg (Val := Elt F)) (fun q => (cfgs q).toPCfg_adm) (0 : Fin 1) (rdat m) (V0 m) [hostOps1]) :=
  KLaunch.run (fun q => (cfgs q).toPCfg (Val := Elt F)) (fun q => (cfgs q).toPCfg_adm) (0 : Fin 1) launch0.toP.to₀ defs₀ Variants.none
    (rdat m) m ρ main (hbody := fun c => (obligation m c).toRRel) (hq := fun c w hw => (rdat m c).q_eq_shareOf_of_share_full launch0.win.arr_inj (fun w => (dat m c).share_full (fun _ => rfl) w) w hw) (howed := fun _ _ => rfl)
    (V₀ := V0 m) (opss := [hostOps1]) (hsub := sfx_sub) (hfresh := sfx_fresh) (hkeep := sfx_keeps)
    (hmain := hmain m Variants.none) (hA := A_eq m) (hpf := fun _ k => k.elim0)
    (hin := fun c => BIBase.Entails.trans (show _ ⊢ Pipeline.ΦA spec0 c by iintro ⟨H, -⟩; iexact H) .rfl) (hout := fun c => .rfl)

/-- What the kernel returns on two feature arrays: the column of numbers as a vector. -/
def result (f1 f2 : Vec F S16x32x32x96 .f32) : Vec F S16 .f32 :=
  shapeCast S16 (column (shapeCast S16x1024x96 f1 shapeCasts_S16x32x32x96_S16x1024x96)
    (shapeCast S16x1024x96 f2 shapeCasts_S16x32x32x96_S16x1024x96)) shapeCasts_S16x1_S16

/-- The launch's first operand is the first feature map with its positions in one row. -/
theorem V_v0 (c : Dev nD) : V m c main_v0
    = shapeCast S16x1024x96 (m ((c : Thread nD τ).loc main_arg0)) shapeCasts_S16x32x32x96_S16x1024x96 := by
  rfl
/-- The launch's second operand is the second feature map with its positions in one row. -/
theorem V_v1 (c : Dev nD) : V m c main_v1
    = shapeCast S16x1024x96 (m ((c : Thread nD τ).loc main_arg1)) shapeCasts_S16x32x32x96_S16x1024x96 := by
  rfl

/-- THE RUN: the result buffer holds `result` of the two arguments, the arguments are unchanged, the counters zero. -/
theorem run : θ_run defs (onTc (τ := τ) (main (F := F))) ⟨m, fun _ => 0, ρ⟩ (fun r => (∀ c : Dev nD,
      r.2.mem ((c.tc : Thread nD τ).loc main_v3)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r h => ⟨fun c => ?_, h.2⟩) (launched m ρ)
  obtain ⟨A, hA, hr⟩ := h.1 c
  have hb : ∀ b : Ref sig .tc, b.isScoped = false → (∀ w, (spec0 w).arr.view.ref ≠ b) →
      r.2.mem ((c.tc : Thread nD τ).loc b) = StableHlo.after [hostOps1].flatten (Pipeline.withArrays spec0 c (V0 m c) A) (Proc.devRef .tc b) :=
    fun b h1 h2 => hr b (Finset.mem_sdiff.mpr ⟨Pipeline.mem_restRefs_of b h1 h2, fun hc => by
      obtain ⟨k, _⟩ := Finset.mem_image.mp hc
      exact k.elim0⟩)
  have keep : ∀ b : Ref sig .tc, b ≠ main_v3 → (∀ w, Pipeline.arrRef spec0 w ≠ b) →
      StableHlo.after [hostOps1].flatten (Pipeline.withArrays spec0 c (V0 m c) A) (Proc.devRef .tc b) = V m c b := by
    intro b h3 hw
    rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h3)),
      Pipeline.withArrays_of_ne _ c (V0 m c) _ b hw]
  refine ⟨?_, ?_, ?_⟩
  · rw [hb main_v3 (by decide) (by decide)]
    have e2 : Pipeline.withArrays spec0 c (V0 m c) A (Proc.devRef .tc main_v2) = A 2 :=
      Pipeline.withArrays_arr spec0 launch0.win.arr_inj c (V0 m c) A 2
    have ef := final m c (A 2) (hA 2)
    rw [V_v0, V_v1] at ef
    show shapeCast S16 (Pipeline.withArrays spec0 c (V0 m c) A (Proc.devRef .tc main_v2) : Vec F S16x1 .f32) shapeCasts_S16x1_S16 = _
    rw [e2]
    exact congrArg (fun X : Vec F S16x1 .f32 => shapeCast S16 X shapeCasts_S16x1_S16) ef
  · rw [hb main_arg0 (by decide) (by decide), keep main_arg0 (by decide) (by decide), V_main_arg0]
  · rw [hb main_arg1 (by decide) (by decide), keep main_arg1 (by decide) (by decide), V_main_arg1]

end Cert.KRun

end
-- ==== Proof.Same.lean ====
/- The kernel over bits. No operation was rewritten for the reading over the extended reals, so the two printed programs
   are one program under two names, at any reading of the floats; what `KRun` says of the one, said at bits, holds of the
   other. -/
module

public import proofs.«01_k».proof.Proof.Gen.Kernel
public import proofs.«01_k».proof.Proof.KRun
public import Idealize.ShloMosaic.PureOps.BitExact

@[expose] public section

set_option maxRecDepth 16384

noncomputable section

namespace Cert.Same

open Idealize.ShloMosaic Idealize.SL.Sem

variable {F : FTy → Type} [FloatOps F]

/-- The first quarter of the body's text is the same. -/
theorem part1 : Cert.Kernel.k0_part1 (F := F) = Cert.KernelIdeal.k0_part1 (F := F) := by
  delta Cert.Kernel.k0_part1 Cert.KernelIdeal.k0_part1
  exact Eq.refl _

/-- So is the second. -/
theorem part2 : Cert.Kernel.k0_part2 (F := F) = Cert.KernelIdeal.k0_part2 (F := F) := by
  delta Cert.Kernel.k0_part2 Cert.KernelIdeal.k0_part2
  exact Eq.refl _

/-- So is the third. -/
theorem part3 : Cert.Kernel.k0_part3 (F := F) = Cert.KernelIdeal.k0_part3 (F := F) := by
  delta Cert.Kernel.k0_part3 Cert.KernelIdeal.k0_part3
  exact Eq.refl _

/-- So is the fourth. -/
theorem part4 : Cert.Kernel.k0_part4 (F := F) = Cert.KernelIdeal.k0_part4 (F := F) := by
  delta Cert.Kernel.k0_part4 Cert.KernelIdeal.k0_part4
  exact Eq.refl _

/-- So is the whole body. -/
theorem body : Cert.Kernel.cc0__loss_kernel (F := F) = Cert.KernelIdeal.cc0__loss_kernel (F := F) := by
  delta Cert.Kernel.cc0__loss_kernel Cert.KernelIdeal.cc0__loss_kernel
  rw [part1, part2, part3, part4]
  exact Eq.refl _

/-- The two programs' kernel bodies agree label by label. -/
theorem bodies : Cert.Kernel.defs₀ (F := F) = Cert.KernelIdeal.defs₀ (F := F) := by
  delta Cert.Kernel.defs₀ Cert.KernelIdeal.defs₀
  rw [body]
  refine congrArg Defs.onTc ?_
  funext l x
  match l, x with
  | ⟨0, _⟩, (t, s) => exact Eq.refl _

/-- The two programs' tables of definitions agree. -/
theorem definitions : Cert.Kernel.defs (F := F) = Cert.KernelIdeal.defs (F := F) :=
  congrArg (Pipeline.defs Cert.KernelIdeal.pcfgs) bodies

/-- The two programs' main functions agree. -/
theorem mains : Cert.Kernel.main (F := F) = Cert.KernelIdeal.main (F := F) := rfl

open Cert.Kernel in
/-- The kernel over bits runs, ends with both arguments as they were, and with every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := KRun.run (F := Bits) m ρ
  rw [← definitions, ← mains] at h
  exact (θ_run _ _ _).mono (fun _ h => ⟨fun c => (h.1 c).2, h.2⟩) h

end Cert.Same

end
-- ==== Proof.RefRun.lean ====
/- The reference's run. @main is a straight line of array operations, so its run is the composition of what each
   operation computes; this module writes the line as a list, gives every intermediate array of interest a name and a
   definition of its own, and states that the result buffer ends at `scoreAll` of the two feature maps, with both
   arguments unchanged and every counter at zero. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A feature map with its two spatial axes laid out as one of 1024 positions. -/
def flat (x : FVec F S16x32x32x96 .f32) : FVec F S16x1024x96 .f32 :=
  shapeCast _ x shapeCasts_S16x32x32x96_S16x1024x96

/-- The inner products of every position of `p` with every position of `q`, batch by batch. -/
def simAll (q p : FVec F S16x1024x96 .f32) : FVec F S16x1024x1024 .f32 :=
  Host.dotGeneral dot_S16x1024x96_S16x96x1024_S16x1024x1024_2_1_1_2_0_0 none p
    (transpose S16x96x1024 [0, 2, 1] q transposes_S16x1024x96_S16x96x1024_0_2_1)

/-- For every column of a batch's matrix, the row its largest entry stands in. -/
def bestRow (M : FVec F S16x1024x1024 .f32) : IVec S16x1024 32 := fun j =>
  (Host.argReduce reducer_argmax_f32_i32 M (iotaInDim S16x1024x1024 32 1) (constant S_ .f32 0xFF800000#32)
    (constantI S_ 32 0#32) reducesTo_S16x1024x1024_S16x1024_d1 h_S_ j).2

/-- For every row of a batch's matrix, the column its largest entry stands in. -/
def bestCol (M : FVec F S16x1024x1024 .f32) : IVec S16x1024 32 := fun j =>
  (Host.argReduce reducer_argmax_f32_i32 M (iotaInDim S16x1024x1024 32 2) (constant S_ .f32 0xFF800000#32)
    (constantI S_ 32 0#32) reducesTo_S16x1024x1024_S16x1024_d2 h_S_ j).2

/-- An array of positions as an index array: a negative entry counts from the end. -/
def asIndex (v : IVec S16x1024 32) : IVec S16x1024x1 32 :=
  broadcastInDim S16x1024x1 ![0, 1] bcast_S16x1024_S16x1024x1_0_1
    (select (cmpi .slt v (broadcastInDim S16x1024 ![] bcast_S_S16x1024 (constantI S_ 32 0#32)))
      (addi v (broadcastInDim S16x1024 ![] bcast_S_S16x1024 (constantI S_ 32 1024#32))) v)

/-- The positions `b` whose best row has `b` as its own best column. -/
def mutualAt (r k : IVec S16x1024 32) : IVec S16x1024 1 :=
  cmpi .eq
    (broadcastInDim S16x1024 ![0, 1] bcast_S1x1024_S16x1024_0_1
      (broadcastInDim S1x1024 ![1] bcast_S1024_S1x1024_1 (iotaInDim S1024 32 0)))
    (Host.gather gather_S16x1024_S16x1024x1_S16x1024_n_1_0_0_1_2_11 k (asIndex r))

/-- How many mutual positions a batch has. -/
def countAll (v : IVec S16x1024 1) : IVec S16 32 :=
  Host.reduce IntOp.addi (extui 32 v natLt_1_32) (constantI S_ 32 0#32) reducesTo_S16x1024_S16_d1 h_S_

/-- The inner product of each position of `q` with the position of `p` that it matches best. -/
def matchAll (q p : FVec F S16x1024x96 .f32) (r : IVec S16x1024 32) : FVec F S16x1024 .f32 :=
  Host.reduceAdd (mulf q (Host.gather gather_S16x1024x96_S16x1024x1_S16x1024x96_2_1_0_0_1_2_1196 p (asIndex r)))
    (constant S_ .f32 0x00000000#32) reducesTo_S16x1024x96_S16x1024_d2 h_S_

/-- The sum of `s` over the mutual positions. -/
def maskedAll (v : IVec S16x1024 1) (s : FVec F S16x1024 .f32) : FVec F S16 .f32 :=
  Host.reduceAdd
    (select v s (broadcastInDim S16x1024 ![1] bcast_S1024_S16x1024_1
      (broadcastInDim S1024 ![] bcast_S_S1024 (id (constant S_ .f32 0x00000000#32)))))
    (constant S_ .f32 0x00000000#32) reducesTo_S16x1024_S16_d1 h_S_

/-- The mean over positions of the inner product of `q` and `p` at the same position. -/
def plainAll (q p : FVec F S16x1024x96 .f32) : FVec F S16 .f32 :=
  Host.divf
    (Host.reduceAdd
      (Host.reduceAdd (mulf q p) (constant S_ .f32 0x00000000#32) reducesTo_S16x1024x96_S16x1024_d2 h_S_)
      (constant S_ .f32 0x00000000#32) reducesTo_S16x1024_S16_d1 h_S_)
    (broadcastInDim S16 ![] bcast_S_S16 (constant S_ .f32 0x44800000#32))

/-- The choice between the mean over mutual positions and the plain mean. -/
def chooseAll (n : IVec S16 32) (s f : FVec F S16 .f32) : FVec F S16 .f32 :=
  select (cmpi .sgt n (broadcastInDim S16 ![] bcast_S_S16 (constantI S_ 32 1#32)))
    (Host.divf s (sitofp .f32 (maxsi n (broadcastInDim S16 ![] bcast_S_S16 (constantI S_ 32 1#32))))) f

/-- The score of every batch from its matrix's best rows and columns. -/
def scoreOf (q p : FVec F S16x1024x96 .f32) (r k : IVec S16x1024 32) : FVec F S16 .f32 :=
  chooseAll (countAll (mutualAt r k)) (maskedAll (mutualAt r k) (matchAll q p r)) (plainAll q p)

/-- The score of every batch. -/
def scoreAll (q p : FVec F S16x1024x96 .f32) : FVec F S16 .f32 :=
  scoreOf q p (bestRow (simAll q p)) (bestCol (simAll q p))

/-- @main's operations in order; a called function's operations stand in its call's place. -/
abbrev ops : List (HloOp τ sig (Elt F)) :=
  [ reshape main_arg0 main_v0 (rfl : (.f32 : EltTy) = .f32) shapeCasts_S16x32x32x96_S16x1024x96,
    reshape main_arg1 main_v1 (rfl : (.f32 : EltTy) = .f32) shapeCasts_S16x32x32x96_S16x1024x96,
    unary main_v0 main_v2 ((transpose S16x96x1024 [0, 2, 1] · transposes_S16x1024x96_S16x96x1024_0_2_1) : (⟨S16x1024x96, .f32⟩ : BufTy).Contents (Elt F) → (⟨S16x96x1024, .f32⟩ : BufTy).Contents (Elt F)),
    binary main_v1 main_v2 main_v3 ((fun l r => Host.dotGeneral dot_S16x1024x96_S16x96x1024_S16x1024x1024_2_1_1_2_0_0 none l r) : (⟨S16x1024x96, .f32⟩ : BufTy).Contents (Elt F) → (⟨S16x96x1024, .f32⟩ : BufTy).Contents (Elt F) → (⟨S16x1024x1024, .f32⟩ : BufTy).Contents (Elt F)),
    TRef.nullary (TRef.of (T := ⟨S16x1024x1024, .i32⟩) main_call0_v0) (iotaInDim S16x1024x1024 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16x1024x1024, .f32⟩) main_v3) (TRef.of (T := ⟨S16x1024x1024, .i32⟩) main_call0_v0) (TRef.of (T := ⟨S_, .f32⟩) main_call0_cst) (TRef.of (T := ⟨S_, .i32⟩) main_call0_c) (TRef.of (T := ⟨S16x1024, .f32⟩) main_call0_v1_0) (fun x y u v j => (Host.argReduce reducer_argmax_f32_i32 x y u v reducesTo_S16x1024x1024_S16x1024_d1 h_S_ j).1),
    TRef.quaternary (TRef.of (T := ⟨S16x1024x1024, .f32⟩) main_v3) (TRef.of (T := ⟨S16x1024x1024, .i32⟩) main_call0_v0) (TRef.of (T := ⟨S_, .f32⟩) main_call0_cst) (TRef.of (T := ⟨S_, .i32⟩) main_call0_c) (TRef.of (T := ⟨S16x1024, .i32⟩) main_v4) (fun x y u v j => (Host.argReduce reducer_argmax_f32_i32 x y u v reducesTo_S16x1024x1024_S16x1024_d1 h_S_ j).2),
    TRef.nullary (TRef.of (T := ⟨S16x1024x1024, .i32⟩) main_call1_v0) (iotaInDim S16x1024x1024 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16x1024x1024, .f32⟩) main_v3) (TRef.of (T := ⟨S16x1024x1024, .i32⟩) main_call1_v0) (TRef.of (T := ⟨S_, .f32⟩) main_call1_cst) (TRef.of (T := ⟨S_, .i32⟩) main_call1_c) (TRef.of (T := ⟨S16x1024, .f32⟩) main_call1_v1_0) (fun x y u v j => (Host.argReduce reducer_argmax_f32_i32 x y u v reducesTo_S16x1024x1024_S16x1024_d2 h_S_ j).1),
    TRef.quaternary (TRef.of (T := ⟨S16x1024x1024, .f32⟩) main_v3) (TRef.of (T := ⟨S16x1024x1024, .i32⟩) main_call1_v0) (TRef.of (T := ⟨S_, .f32⟩) main_call1_cst) (TRef.of (T := ⟨S_, .i32⟩) main_call1_c) (TRef.of (T := ⟨S16x1024, .i32⟩) main_v5) (fun x y u v j => (Host.argReduce reducer_argmax_f32_i32 x y u v reducesTo_S16x1024x1024_S16x1024_d2 h_S_ j).2),
    nullary main_v6 (iotaInDim S1024 32 0),
    nullary main_c (constantI S_ 32 0#32),
    unary main_c main_v7 (broadcastInDim S16x1024 ![] bcast_S_S16x1024 : (⟨S_, .i32⟩ : BufTy).Contents (Elt F) → (⟨S16x1024, .i32⟩ : BufTy).Contents (Elt F)),
    binary main_v4 main_v7 main_v8 (cmpi .slt : (⟨S16x1024, .i32⟩ : BufTy).Contents (Elt F) → (⟨S16x1024, .i32⟩ : BufTy).Contents (Elt F) → (⟨S16x1024, .i1⟩ : BufTy).Contents (Elt F)),
    nullary main_c_0 (constantI S_ 32 1024#32),
    unary main_c_0 main_v9 (broadcastInDim S16x1024 ![] bcast_S_S16x1024 : (⟨S_, .i32⟩ : BufTy).Contents (Elt F) → (⟨S16x1024, .i32⟩ : BufTy).Contents (Elt F)),
    binary main_v4 main_v9 main_v10 (addi : (⟨S16x1024, .i32⟩ : BufTy).Contents (Elt F) → (⟨S16x1024, .i32⟩ : BufTy).Contents (Elt F) → (⟨S16x1024, .i32⟩ : BufTy).Contents (Elt F)),
    ternary main_v8 main_v10 main_v4 main_v11 (select : (⟨S16x1024, .i1⟩ : BufTy).Contents (Elt F) → (⟨S16x1024, .i32⟩ : BufTy).Contents (Elt F) → (⟨S16x1024, .i32⟩ : BufTy).Contents (Elt F) → (⟨S16x1024, .i32⟩ : BufTy).Contents (Elt F)),
    unary main_v11 main_v12 (broadcastInDim S16x1024x1 ![0, 1] bcast_S16x1024_S16x1024x1_0_1 : (⟨S16x1024, .i32⟩ : BufTy).Contents (Elt F) → (⟨S16x1024x1, .i32⟩ : BufTy).Contents (Elt F)),
    binary main_v5 main_v12 main_v13 ((fun x i => Host.gather gather_S16x1024_S16x1024x1_S16x1024_n_1_0_0_1_2_11 x i) : (⟨S16x1024, .i32⟩ : BufTy).Contents (Elt F) → (⟨S16x1024x1, .i32⟩ : BufTy).Contents (Elt F) → (⟨S16x1024, .i32⟩ : BufTy).Contents (Elt F)),
    unary main_v6 main_v14 (broadcastInDim S1x1024 ![1] bcast_S1024_S1x1024_1 : (⟨S1024, .i32⟩ : BufTy).Contents (Elt F) → (⟨S1x1024, .i32⟩ : BufTy).Contents (Elt F)),
    unary main_v14 main_v15 (broadcastInDim S16x1024 ![0, 1] bcast_S1x1024_S16x1024_0_1 : (⟨S1x1024, .i32⟩ : BufTy).Contents (Elt F) → (⟨S16x1024, .i32⟩ : BufTy).Contents (Elt F)),
    binary main_v15 main_v13 main_v16 (cmpi .eq : (⟨S16x1024, .i32⟩ : BufTy).Contents (Elt F) → (⟨S16x1024, .i32⟩ : BufTy).Contents (Elt F) → (⟨S16x1024, .i1⟩ : BufTy).Contents (Elt F)),
    unary main_v16 main_v17 ((extui 32 · natLt_1_32) : (⟨S16x1024, .i1⟩ : BufTy).Contents (Elt F) → (⟨S16x1024, .i32⟩ : BufTy).Contents (Elt F)),
    nullary main_c_1 (constantI S_ 32 0#32),
    binary main_v17 main_c_1 main_v18 ((fun x v => Host.reduce IntOp.addi x v reducesTo_S16x1024_S16_d1 h_S_) : (⟨S16x1024, .i32⟩ : BufTy).Contents (Elt F) → (⟨S_, .i32⟩ : BufTy).Contents (Elt F) → (⟨S16, .i32⟩ : BufTy).Contents (Elt F)),
    nullary main_c_2 (constantI S_ 32 0#32),
    unary main_c_2 main_v19 (broadcastInDim S16x1024 ![] bcast_S_S16x1024 : (⟨S_, .i32⟩ : BufTy).Contents (Elt F) → (⟨S16x1024, .i32⟩ : BufTy).Contents (Elt F)),
    binary main_v4 main_v19 main_v20 (cmpi .slt : (⟨S16x1024, .i32⟩ : BufTy).Contents (Elt F) → (⟨S16x1024, .i32⟩ : BufTy).Contents (Elt F) → (⟨S16x1024, .i1⟩ : BufTy).Contents (Elt F)),
    nullary main_c_3 (constantI S_ 32 1024#32),
    unary main_c_3 main_v21 (broadcastInDim S16x1024 ![] bcast_S_S16x1024 : (⟨S_, .i32⟩ : BufTy).Contents (Elt F) → (⟨S16x1024, .i32⟩ : BufTy).Contents (Elt F)),
    binary main_v4 main_v21 main_v22 (addi : (⟨S16x1024, .i32⟩ : BufTy).Contents (Elt F) → (⟨S16x1024, .i32⟩ : BufTy).Contents (Elt F) → (⟨S16x1024, .i32⟩ : BufTy).Contents (Elt F)),
    ternary main_v20 main_v22 main_v4 main_v23 (select : (⟨S16x1024, .i1⟩ : BufTy).Contents (Elt F) → (⟨S16x1024, .i32⟩ : BufTy).Contents (Elt F) → (⟨S16x1024, .i32⟩ : BufTy).Contents (Elt F) → (⟨S16x1024, .i32⟩ : BufTy).Contents (Elt F)),
    unary main_v23 main_v24 (broadcastInDim S16x1024x1 ![0, 1] bcast_S16x1024_S16x1024x1_0_1 : (⟨S16x1024, .i32⟩ : BufTy).Contents (Elt F) → (⟨S16x1024x1, .i32⟩ : BufTy).Contents (Elt F)),
    binary main_v1 main_v24 main_v25 ((fun x i => Host.gather gather_S16x1024x96_S16x1024x1_S16x1024x96_2_1_0_0_1_2_1196 x i) : (⟨S16x1024x96, .f32⟩ : BufTy).Contents (Elt F) → (⟨S16x1024x1, .i32⟩ : BufTy).Contents (Elt F) → (⟨S16x1024x96, .f32⟩ : BufTy).Contents (Elt F)),
    binary main_v0 main_v25 main_v26 (mulf : (⟨S16x1024x96, .f32⟩ : BufTy).Contents (Elt F) → (⟨S16x1024x96, .f32⟩ : BufTy).Contents (Elt F) → (⟨S16x1024x96, .f32⟩ : BufTy).Contents (Elt F)),
    nullary main_cst (constant S_ .f32 0x00000000#32),
    binary main_v26 main_cst main_v27 ((fun x v => Host.reduceAdd x v reducesTo_S16x1024x96_S16x1024_d2 h_S_) : (⟨S16x1024x96, .f32⟩ : BufTy).Contents (Elt F) → (⟨S_, .f32⟩ : BufTy).Contents (Elt F) → (⟨S16x1024, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S1024, .f32⟩) main_call2_v1) (broadcastInDim S1024 ![] bcast_S_S1024),
    TRef.unary (TRef.of (T := ⟨S1024, .f32⟩) main_call2_v1) (TRef.of (T := ⟨S16x1024, .f32⟩) main_call2_v2) (broadcastInDim S16x1024 ![1] bcast_S1024_S16x1024_1),
    TRef.ternary (TRef.of (T := ⟨S16x1024, .i1⟩) main_v16) (TRef.of (T := ⟨S16x1024, .f32⟩) main_v27) (TRef.of (T := ⟨S16x1024, .f32⟩) main_call2_v2) (TRef.of (T := ⟨S16x1024, .f32⟩) main_v28) select,
    nullary main_cst_5 (constant S_ .f32 0x00000000#32),
    binary main_v28 main_cst_5 main_v29 ((fun x v => Host.reduceAdd x v reducesTo_S16x1024_S16_d1 h_S_) : (⟨S16x1024, .f32⟩ : BufTy).Contents (Elt F) → (⟨S_, .f32⟩ : BufTy).Contents (Elt F) → (⟨S16, .f32⟩ : BufTy).Contents (Elt F)),
    nullary main_c_6 (constantI S_ 32 1#32),
    unary main_c_6 main_v30 (broadcastInDim S16 ![] bcast_S_S16 : (⟨S_, .i32⟩ : BufTy).Contents (Elt F) → (⟨S16, .i32⟩ : BufTy).Contents (Elt F)),
    binary main_v18 main_v30 main_v31 (maxsi : (⟨S16, .i32⟩ : BufTy).Contents (Elt F) → (⟨S16, .i32⟩ : BufTy).Contents (Elt F) → (⟨S16, .i32⟩ : BufTy).Contents (Elt F)),
    unary main_v31 main_v32 (sitofp .f32 : (⟨S16, .i32⟩ : BufTy).Contents (Elt F) → (⟨S16, .f32⟩ : BufTy).Contents (Elt F)),
    binary main_v29 main_v32 main_v33 (Host.divf : (⟨S16, .f32⟩ : BufTy).Contents (Elt F) → (⟨S16, .f32⟩ : BufTy).Contents (Elt F) → (⟨S16, .f32⟩ : BufTy).Contents (Elt F)),
    binary main_v0 main_v1 main_v34 (mulf : (⟨S16x1024x96, .f32⟩ : BufTy).Contents (Elt F) → (⟨S16x1024x96, .f32⟩ : BufTy).Contents (Elt F) → (⟨S16x1024x96, .f32⟩ : BufTy).Contents (Elt F)),
    nullary main_cst_7 (constant S_ .f32 0x00000000#32),
    binary main_v34 main_cst_7 main_v35 ((fun x v => Host.reduceAdd x v reducesTo_S16x1024x96_S16x1024_d2 h_S_) : (⟨S16x1024x96, .f32⟩ : BufTy).Contents (Elt F) → (⟨S_, .f32⟩ : BufTy).Contents (Elt F) → (⟨S16x1024, .f32⟩ : BufTy).Contents (Elt F)),
    nullary main_cst_8 (constant S_ .f32 0x00000000#32),
    binary main_v35 main_cst_8 main_v36 ((fun x v => Host.reduceAdd x v reducesTo_S16x1024_S16_d1 h_S_) : (⟨S16x1024, .f32⟩ : BufTy).Contents (Elt F) → (⟨S_, .f32⟩ : BufTy).Contents (Elt F) → (⟨S16, .f32⟩ : BufTy).Contents (Elt F)),
    nullary main_cst_9 (constant S_ .f32 0x44800000#32),
    unary main_cst_9 main_v37 (broadcastInDim S16 ![] bcast_S_S16 : (⟨S_, .f32⟩ : BufTy).Contents (Elt F) → (⟨S16, .f32⟩ : BufTy).Contents (Elt F)),
    binary main_v36 main_v37 main_v38 (Host.divf : (⟨S16, .f32⟩ : BufTy).Contents (Elt F) → (⟨S16, .f32⟩ : BufTy).Contents (Elt F) → (⟨S16, .f32⟩ : BufTy).Contents (Elt F)),
    nullary main_c_10 (constantI S_ 32 1#32),
    unary main_c_10 main_v39 (broadcastInDim S16 ![] bcast_S_S16 : (⟨S_, .i32⟩ : BufTy).Contents (Elt F) → (⟨S16, .i32⟩ : BufTy).Contents (Elt F)),
    binary main_v18 main_v39 main_v40 (cmpi .sgt : (⟨S16, .i32⟩ : BufTy).Contents (Elt F) → (⟨S16, .i32⟩ : BufTy).Contents (Elt F) → (⟨S16, .i1⟩ : BufTy).Contents (Elt F)),
    TRef.ternary (TRef.of (T := ⟨S16, .i1⟩) main_v40) (TRef.of (T := ⟨S16, .f32⟩) main_v33) (TRef.of (T := ⟨S16, .f32⟩) main_v38) (TRef.of (T := ⟨S16, .f32⟩) main_v41) select ]

set_option maxRecDepth 8192 in
set_option maxHeartbeats 4000000 in
/-- @main is that line. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Every operation touches this core's buffers only. -/
theorem ops_sub : (ops : List (HloOp τ sig (Elt F))).Forall fun op => op.bufs ⊆ tcRefs τ sig :=
  ⟨reshape_bufs_sub .., reshape_bufs_sub .., unary_bufs_sub .., binary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub .., nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., binary_bufs_sub .., binary_bufs_sub .., nullary_bufs_sub .., binary_bufs_sub .., nullary_bufs_sub .., binary_bufs_sub .., nullary_bufs_sub .., unary_bufs_sub .., binary_bufs_sub .., nullary_bufs_sub .., unary_bufs_sub .., binary_bufs_sub .., ternary_bufs_sub ..⟩

set_option maxRecDepth 8192 in
set_option maxHeartbeats 27200000 in
/-- Every execution ends with the result at `scoreAll` of the laid-out arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = scoreAll (flat (m ((c.tc : Thread nD τ).loc main_arg0))) (flat (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (by
        simp only [ops, TRef.nullary, TRef.quaternary, TRef.ternary, TRef.unary, TRef.toBuf, TRef.ofBuf, cast_eq]
        after_results_simp <;> rfl),
      (h c main_arg0).trans (by
        simp only [ops, TRef.nullary, TRef.quaternary, TRef.ternary, TRef.unary, TRef.toBuf, TRef.ofBuf, cast_eq]
        after_results_simp <;> rfl),
      (h c main_arg1).trans (by
        simp only [ops, TRef.nullary, TRef.quaternary, TRef.ternary, TRef.unary, TRef.toBuf, TRef.ofBuf, cast_eq]
        after_results_simp <;> rfl)⟩)
    (run_seq scopedRefs_eq scopedSems_eq defs main (fun _ => ops) main_eq (fun _ => ops_sub) m ρ)

end Cert.RefRun

end
-- ==== Proof.Score.lean ====
/- The mathematics of one batch, in the extended reals and free of arrays: two ways of scoring a pair of feature maps of
   1024 positions with 96 channels, and that they agree when every largest entry of the matrix of inner products stands
   alone in its row and in its column. -/
module

public import Idealize.ShloMosaic.PureOps.Ideal.Laws

@[expose] public section

noncomputable section

namespace Cert.Score

open Idealize.ShloMosaic

open Classical in
/-- One for a true statement, zero for a false one. -/
def mark (s : Prop) : EReal := if s then 1 else 0

/-- The inner product of position `a` of `p` with position `b` of `q`. -/
def sim (q p : Fin 1024 → Fin 96 → EReal) (a b : Fin 1024) : EReal := ∑ c, p a c * q b c

/-- The largest entry of row `a`. -/
def rowTop (M : Fin 1024 → Fin 1024 → EReal) (a : Fin 1024) : EReal := Finset.univ.sup fun b => M a b

/-- The largest entry of column `b`. -/
def colTop (M : Fin 1024 → Fin 1024 → EReal) (b : Fin 1024) : EReal := Finset.univ.sup fun a => M a b

open Classical in
/-- The largest of those entries of column `b` that are the largest of their rows. -/
def keptTop (M : Fin 1024 → Fin 1024 → EReal) (b : Fin 1024) : EReal :=
  Finset.univ.sup fun a => if M a b = rowTop M a then M a b else ⊥

/-- The sum over the positions of the inner product of `q` and `p` at the same position. -/
def plain (q p : Fin 1024 → Fin 96 → EReal) : EReal := ∑ b, ∑ c, q b c * p b c

open Classical in
/-- The score by comparison of maxima: column `b` counts when its largest entry survives the restriction to the entries
    that are the largest of their rows. -/
def byMaxima (q p : Fin 1024 → Fin 96 → EReal) : EReal :=
  if 1 < ∑ b, mark (keptTop (sim q p) b = colTop (sim q p) b) then
    Ideal.div (∑ b, mark (keptTop (sim q p) b = colTop (sim q p) b) * colTop (sim q p) b)
      (max (∑ b, mark (keptTop (sim q p) b = colTop (sim q p) b)) 1)
  else Ideal.div (plain q p) (Ideal.ofBits .f32 0x44800000#32)

/-- How many positions `b` are mutual: the best column of `b`'s best row is `b`. -/
def mutualCount (r k : Fin 1024 → Fin 1024) : ℕ := (Finset.univ.filter fun b => k (r b) = b).card

/-- The score by positions, from the best row `r b` of every column and the best column `k a` of every row. -/
def byPositions (q p : Fin 1024 → Fin 96 → EReal) (r k : Fin 1024 → Fin 1024) : EReal :=
  if 1 < mutualCount r k then
    Ideal.div (∑ b, if k (r b) = b then ∑ c, q b c * p (r b) c else 0) ((max (mutualCount r k) 1 : ℕ) : EReal)
  else Ideal.div (plain q p) (Ideal.ofBits .f32 0x44800000#32)

/-- `r` and `k` name the only places where a column's and a row's largest entry stands. -/
structure Alone (M : Fin 1024 → Fin 1024 → EReal) (r k : Fin 1024 → Fin 1024) : Prop where
  col : ∀ b, M (r b) b = colTop M b
  row : ∀ a, M a (k a) = rowTop M a
  colOnly : ∀ a b, M a b = colTop M b → a = r b
  rowOnly : ∀ a b, M a b = rowTop M a → b = k a

variable {M : Fin 1024 → Fin 1024 → EReal} {r k : Fin 1024 → Fin 1024}

/-- Restricting a column's entries does not raise its largest. -/
theorem kept_le (M : Fin 1024 → Fin 1024 → EReal) (b : Fin 1024) : keptTop M b ≤ colTop M b := by
  classical
  refine Finset.sup_le fun a _ => ?_
  split
  · exact Finset.le_sup (f := fun a => M a b) (Finset.mem_univ a)
  · exact bot_le

/-- A column's largest entry survives the restriction exactly when the column is mutual. -/
theorem survives_iff (h : Alone M r k) (b : Fin 1024) : keptTop M b = colTop M b ↔ k (r b) = b := by
  classical
  constructor
  · intro he
    obtain ⟨a, -, ha⟩ := Finset.exists_mem_eq_sup Finset.univ ⟨(0 : Fin 1024), Finset.mem_univ _⟩
      (fun a => if M a b = rowTop M a then M a b else ⊥)
    have ha' : (if M a b = rowTop M a then M a b else ⊥) = colTop M b := ha.symm.trans he
    by_cases hc : M a b = rowTop M a
    · rw [if_pos hc] at ha'
      rw [← h.colOnly a b ha']
      exact (h.rowOnly a b hc).symm
    · rw [if_neg hc] at ha'
      have hb : ∀ a', M a' b = colTop M b := fun a' =>
        le_antisymm (Finset.le_sup (f := fun a => M a b) (Finset.mem_univ a')) (ha' ▸ bot_le)
      have e0 := h.colOnly 0 b (hb 0)
      have e1 := h.colOnly 1 b (hb 1)
      exact absurd (e0.trans e1.symm) (by decide)
  · intro hk
    refine le_antisymm (kept_le M b) ?_
    have e : M (r b) b = rowTop M (r b) := by
      have := h.row (r b)
      rwa [hk] at this
    rw [← h.col b]
    refine le_trans (le_of_eq ?_) (Finset.le_sup (f := fun a => if M a b = rowTop M a then M a b else ⊥) (Finset.mem_univ (r b)))
    exact (if_pos e).symm

/-- The marks of the surviving columns add up to the number of mutual positions. -/
theorem marks (h : Alone M r k) : ∑ b, mark (keptTop M b = colTop M b) = ((mutualCount r k : ℕ) : EReal) := by
  classical
  unfold mutualCount mark
  simp only [survives_iff h]
  rw [Finset.sum_ite, Finset.sum_const_zero, add_zero, Finset.sum_const, EReal.nsmul_eq_mul, mul_one]

/-- A number exceeds one among the extended reals when it does among the naturals. -/
theorem one_lt_natCast (n : ℕ) : (1 : EReal) < (n : EReal) ↔ 1 < n := by
  have : ((1 : ℕ) : EReal) = 1 := Nat.cast_one
  rw [← this]
  exact EReal.natCast_lt_iff

/-- The larger of a number and one, among the extended reals. -/
theorem max_natCast (n : ℕ) : max (n : EReal) 1 = ((max n 1 : ℕ) : EReal) := by
  rcases le_total n 1 with hn | hn
  · rw [max_eq_right hn, Nat.cast_one]
    refine max_eq_right ?_
    have := EReal.natCast_le_iff.mpr hn
    simpa using this
  · rw [max_eq_left hn]
    refine max_eq_left ?_
    have := EReal.natCast_le_iff.mpr hn
    simpa using this

/-- THE EQUATION: the two scores agree. -/
theorem agree (q p : Fin 1024 → Fin 96 → EReal) (h : Alone (sim q p) r k) : byMaxima q p = byPositions q p r k := by
  unfold byMaxima byPositions
  rw [marks h, max_natCast]
  simp only [one_lt_natCast]
  have hs : ∑ b, mark (keptTop (sim q p) b = colTop (sim q p) b) * colTop (sim q p) b
      = ∑ b, if k (r b) = b then ∑ c, q b c * p (r b) c else 0 := by
    refine Finset.sum_congr rfl fun b _ => ?_
    unfold mark
    by_cases hb : k (r b) = b
    · rw [if_pos ((survives_iff h b).mpr hb), if_pos hb, one_mul, ← h.col b]
      exact Finset.sum_congr rfl fun c _ => mul_comm _ _
    · rw [if_neg (mt (survives_iff h b).mp hb), if_neg hb, zero_mul]
  rw [hs]

end Cert.Score

end
-- ==== Proof.KValue.lean ====
/- The body's value on extended reals: one batch's score, as the mathematics of `Score` writes it. -/
module

public import proofs.«01_k».proof.Proof.KRun
public import proofs.«01_k».proof.Proof.Score
public import Idealize.ShloMosaic.Lib.Pointwise

@[expose] public section

set_option maxRecDepth 16384

noncomputable section

namespace Cert.KValue

open Cert.KernelIdeal Cert.KernelIdeal.Gen Cert.KBody Cert.KRun
open Idealize.ShloMosaic

/-- The pattern of minus infinity reads as the least extended real. -/
theorem ninf : Ideal.ofBits .f32 4286578688#32 = ⊥ := by
  simp [Ideal.ofBits, Ideal.ieee]

/-- A fold of the larger value, started at the least one, is the supremum. -/
theorem fold_sup (f : Fin 1024 → EReal) : Finset.fold max ⊥ f Finset.univ = Finset.univ.sup f := rfl

/-- A truth value widened to a word and converted to a float is the statement's mark. -/
theorem mark_eq (s : Prop) [Decidable s] :
    FloatOps.sitofp (F := Ideal) .f32 (BitVec.setWidth 32 (BitVec.ofBool (decide s))) = Score.mark s := by
  unfold Score.mark
  by_cases h : s
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

/-- What the body leaves for one batch is the score by comparison of maxima. -/
theorem score1_eq (q p : FVec Ideal S1x1024x96 .f32) :
    score1 (F := Ideal) q p cell0 = Score.byMaxima (fun b c => q (ix3 0 b c)) (fun a c => p (ix3 0 a c)) := by
  have hc : cell0 = ix2 0 0 := by funext a; fin_cases a <;> rfl
  rw [hc]
  pointwise [score1, k0_pay1, k0_pay23, k0_pay24]
  simp only [mark_eq, ninf, Finset.univ_unique, Finset.sum_singleton]
  simp only [fold_sup]
  simp only [Score.byMaxima, Score.plain, Score.keptTop, Score.colTop, Score.rowTop, Score.sim]
  congr!

end Cert.KValue

end
-- ==== Proof.ArgMax.lean ====
/- What the host's arg-max computes on extended reals: a position below 1024 where the line's largest entry stands. -/
module

public import proofs.«01_k».proof.Proof.RefRun
public import proofs.«01_k».proof.Proof.Score
public import Idealize.ShloMosaic.Lib.Pointwise

@[expose] public section

set_option maxRecDepth 16384

noncomputable section

namespace Cert.ArgMax

open Cert.ReferenceIdeal Cert.ReferenceIdeal.Gen Cert.RefRun
open Idealize.ShloMosaic

/-- One step of the arg-max keeps one of its two (entry, position) pairs, and none of the two entries exceeds the one kept. -/
theorem step (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨x, i⟩ := a
  obtain ⟨y, j⟩ := b
  unfold reducer_argmax_f32_i32
  simp only [Ideal.cmpf_def, Ideal.cmp]
  rcases lt_trichotomy x y with h | h | h
  · simp [h, h.le, h.not_gt, h.ne, Scalar.select, IntOp.ori, IntOp.andi]
  · subst h
    rcases Bool.eq_false_or_eq_true (i.slt j) with hs | hs <;>
      simp [hs, Scalar.select, IntOp.ori, IntOp.andi, IntOp.cmpi]
  · simp [h, h.le, h.not_gt, h.ne', Scalar.select, IntOp.ori, IntOp.andi]

/-- So the fold over a list keeps the start or a member of the list, and its entry is the largest met. -/
theorem fold (L : List (EReal × BitVec 32)) (s : EReal × BitVec 32) :
    (L.foldl (reducer_argmax_f32_i32 (F := Ideal)) s = s ∨ L.foldl (reducer_argmax_f32_i32 (F := Ideal)) s ∈ L)
      ∧ s.1 ≤ (L.foldl (reducer_argmax_f32_i32 (F := Ideal)) s).1
      ∧ ∀ z ∈ L, z.1 ≤ (L.foldl (reducer_argmax_f32_i32 (F := Ideal)) s).1 := by
  induction L generalizing s with
  | nil => exact ⟨.inl rfl, le_rfl, fun z hz => absurd hz List.not_mem_nil⟩
  | cons z L ih =>
    obtain ⟨h1, h2, h3⟩ := ih (reducer_argmax_f32_i32 (F := Ideal) s z)
    obtain ⟨g1, g2, g3⟩ := step s z
    rw [List.foldl_cons]
    refine ⟨?_, g2.trans h2, fun w hw => ?_⟩
    · rcases h1 with h1 | h1
      · rw [h1]
        rcases g1 with g1 | g1
        · exact .inl g1
        · rw [g1]; exact .inr List.mem_cons_self
      · exact .inr (List.mem_cons_of_mem _ h1)
    · rcases List.mem_cons.mp hw with rfl | hw
      · exact g3.trans h2
      · exact h3 w hw

/-- The pattern of minus infinity reads as the least extended real. -/
theorem ninf : Ideal.ofBits .f32 0xFF800000#32 = ⊥ := by
  simp [Ideal.ofBits, Ideal.ieee]

/-- Dropping the column axis keeps batch and row. -/
theorem drop_row (n : Fin 16) (a b : Fin 1024) :
    reducesTo_S16x1024x1024_S16x1024_d2.drop (ix3 n a b) = ix2 n a := by
  funext d
  apply Fin.ext
  fin_cases d
  · exact Shape.ReducesTo.drop_apply_val_of_eq reducesTo_S16x1024x1024_S16x1024_d2 (ix3 n a b) 0 0
  · exact Shape.ReducesTo.drop_apply_val_of_eq reducesTo_S16x1024x1024_S16x1024_d2 (ix3 n a b) 1 1

/-- Dropping the row axis keeps batch and column. -/
theorem drop_col (n : Fin 16) (a b : Fin 1024) :
    reducesTo_S16x1024x1024_S16x1024_d1.drop (ix3 n a b) = ix2 n b := by
  funext d
  apply Fin.ext
  fin_cases d
  · exact Shape.ReducesTo.drop_apply_val_of_eq reducesTo_S16x1024x1024_S16x1024_d1 (ix3 n a b) 0 0
  · exact Shape.ReducesTo.drop_apply_val_of_eq reducesTo_S16x1024x1024_S16x1024_d1 (ix3 n a b) 1 2

/-- The entries the arg-max over the columns folds for row `a`: that row's, each with its column number. -/
theorem mem_row (M : FVec Ideal S16x1024x1024 .f32) (n : Fin 16) (a : Fin 1024) (z : EReal × BitVec 32) :
    z ∈ Host.argReduceFiber (α := EReal) M (iotaInDim S16x1024x1024 32 2) reducesTo_S16x1024x1024_S16x1024_d2 (ix2 n a)
      ↔ ∃ b : Fin 1024, z = (M (ix3 n a b), BitVec.ofNat 32 b.val) := by
  unfold Host.argReduceFiber
  simp only [List.mem_map, List.mem_filter, List.mem_finRange, true_and, decide_eq_true_eq]
  constructor
  · rintro ⟨i, hi, rfl⟩
    generalize S16x1024x1024.rowMajor.symm i = t at hi ⊢
    obtain ⟨t0, t1, t2, rfl⟩ : ∃ t0 t1 t2, t = ix3 t0 t1 t2 := ⟨t 0, t 1, t 2, eq_ix3 t⟩
    rw [drop_row] at hi
    obtain rfl : t0 = n := congrFun hi 0
    obtain rfl : t1 = a := congrFun hi 1
    exact ⟨t2, rfl⟩
  · rintro ⟨b, rfl⟩
    exact ⟨S16x1024x1024.rowMajor (ix3 n a b), by rw [Equiv.symm_apply_apply, drop_row],
      by rw [Equiv.symm_apply_apply]; rfl⟩

/-- The entries the arg-max over the rows folds for column `b`: that column's, each with its row number. -/
theorem mem_col (M : FVec Ideal S16x1024x1024 .f32) (n : Fin 16) (b : Fin 1024) (z : EReal × BitVec 32) :
    z ∈ Host.argReduceFiber (α := EReal) M (iotaInDim S16x1024x1024 32 1) reducesTo_S16x1024x1024_S16x1024_d1 (ix2 n b)
      ↔ ∃ a : Fin 1024, z = (M (ix3 n a b), BitVec.ofNat 32 a.val) := by
  unfold Host.argReduceFiber
  simp only [List.mem_map, List.mem_filter, List.mem_finRange, true_and, decide_eq_true_eq]
  constructor
  · rintro ⟨i, hi, rfl⟩
    generalize S16x1024x1024.rowMajor.symm i = t at hi ⊢
    obtain ⟨t0, t1, t2, rfl⟩ : ∃ t0 t1 t2, t = ix3 t0 t1 t2 := ⟨t 0, t 1, t 2, eq_ix3 t⟩
    rw [drop_col] at hi
    obtain rfl : t0 = n := congrFun hi 0
    obtain rfl : t2 = b := congrFun hi 1
    exact ⟨t1, rfl⟩
  · rintro ⟨a, rfl⟩
    exact ⟨S16x1024x1024.rowMajor (ix3 n a b), by rw [Equiv.symm_apply_apply, drop_col],
      by rw [Equiv.symm_apply_apply]; rfl⟩

/-- A fold started at minus infinity and position 0 over a line of 1024 numbered entries ends at the
    number of an entry that is the line's largest. -/
theorem line (L : List (EReal × BitVec 32)) (f : Fin 1024 → EReal)
    (hL : ∀ z, z ∈ L ↔ ∃ b : Fin 1024, z = (f b, BitVec.ofNat 32 b.val)) :
    ∃ k : Fin 1024, (L.foldl (reducer_argmax_f32_i32 (F := Ideal)) (⊥, 0#32)).2 = BitVec.ofNat 32 k.val
      ∧ f k = Finset.univ.sup f := by
  obtain ⟨h1, -, h3⟩ := fold L (⊥, 0#32)
  have top : ∀ b, f b ≤ (L.foldl (reducer_argmax_f32_i32 (F := Ideal)) (⊥, 0#32)).1 := fun b => h3 _ ((hL _).mpr ⟨b, rfl⟩)
  rcases h1 with h1 | h1
  · rw [h1] at top ⊢
    refine ⟨0, rfl, le_antisymm (Finset.le_sup (Finset.mem_univ 0)) (Finset.sup_le fun b _ => ?_)⟩
    exact (top b).trans bot_le
  · obtain ⟨k, hk⟩ := (hL _).mp h1
    rw [hk] at top ⊢
    exact ⟨k, rfl, le_antisymm (Finset.le_sup (Finset.mem_univ k)) (Finset.sup_le fun b _ => top b)⟩

/-- A host arg-max started at minus infinity and position 0 is the fold over its fiber. -/
theorem position {axes : List (Fin S16x1024x1024.rank)} (M : FVec Ideal S16x1024x1024 .f32) (y : IVec S16x1024x1024 32)
    (h : S16x1024x1024.ReducesTo axes S16x1024) (j : S16x1024.Idx) :
    (Host.argReduce (reducer_argmax_f32_i32 (F := Ideal)) M y (constant S_ .f32 0xFF800000#32) (constantI S_ 32 0#32) h h_S_ j).2
      = ((Host.argReduceFiber (α := EReal) M y h j).foldl (reducer_argmax_f32_i32 (F := Ideal)) (⊥, 0#32)).2 := by
  have e : (constant (F := Ideal) S_ .f32 0xFF800000#32) (Shape.Idx.first h_S_) = (⊥ : EReal) := ninf
  have e' : constantI S_ 32 0#32 (Shape.Idx.first h_S_) = 0#32 := rfl
  rw [Ideal.argReduce_eq_reduce2, Host.reduce2_eq_foldl_fiber, e, e']

/-- `bestCol` as the fold over the fibers. -/
theorem bestCol_eq (M : FVec Ideal S16x1024x1024 .f32) : bestCol M = fun j =>
    ((Host.argReduceFiber (α := EReal) M (iotaInDim S16x1024x1024 32 2) reducesTo_S16x1024x1024_S16x1024_d2 j).foldl
      (reducer_argmax_f32_i32 (F := Ideal)) (⊥, 0#32)).2 := by
  delta bestCol
  exact funext fun j => position M (iotaInDim S16x1024x1024 32 2) reducesTo_S16x1024x1024_S16x1024_d2 j

/-- The best column of a row is the number of a column where the row's largest entry stands. -/
theorem bestCol_spec (M : FVec Ideal S16x1024x1024 .f32) (n : Fin 16) (a : Fin 1024) :
    ∃ k : Fin 1024, bestCol M (ix2 n a) = BitVec.ofNat 32 k.val
      ∧ M (ix3 n a k) = Finset.univ.sup fun b => M (ix3 n a b) := by
  obtain ⟨k, h1, h2⟩ := line _ (fun b => M (ix3 n a b)) (mem_row M n a)
  exact ⟨k, (congrFun (bestCol_eq M) (ix2 n a)).trans h1, h2⟩

/-- `bestRow` as the fold over the fibers. -/
theorem bestRow_eq (M : FVec Ideal S16x1024x1024 .f32) : bestRow M = fun j =>
    ((Host.argReduceFiber (α := EReal) M (iotaInDim S16x1024x1024 32 1) reducesTo_S16x1024x1024_S16x1024_d1 j).foldl
      (reducer_argmax_f32_i32 (F := Ideal)) (⊥, 0#32)).2 := by
  delta bestRow
  exact funext fun j => position M (iotaInDim S16x1024x1024 32 1) reducesTo_S16x1024x1024_S16x1024_d1 j

/-- The best row of a column is the number of a row where the column's largest entry stands. -/
theorem bestRow_spec (M : FVec Ideal S16x1024x1024 .f32) (n : Fin 16) (b : Fin 1024) :
    ∃ k : Fin 1024, bestRow M (ix2 n b) = BitVec.ofNat 32 k.val
      ∧ M (ix3 n k b) = Finset.univ.sup fun a => M (ix3 n a b) := by
  obtain ⟨k, h1, h2⟩ := line _ (fun a => M (ix3 n a b)) (mem_col M n b)
  exact ⟨k, (congrFun (bestRow_eq M) (ix2 n b)).trans h1, h2⟩

end Cert.ArgMax

end
-- ==== Proof.RefGather.lean ====
/- The reference's two look-ups: taking, in every batch, the row or the entry that an array of positions names. -/
module

public import proofs.«01_k».proof.Proof.RefRun
public import Idealize.ShloMosaic.Lib.Pointwise

@[expose] public section

set_option maxRecDepth 16384

noncomputable section

namespace Cert.RefGather

open Cert.ReferenceIdeal Cert.ReferenceIdeal.Gen Cert.RefRun
open Idealize.ShloMosaic

/-- A number below 1024, written as a word and read back signed, is itself. -/
theorem word_toInt (m : ℕ) (h : m ≤ 1024) : (BitVec.ofNat 32 m).toInt = m := by
  rw [BitVec.toInt_eq_toNat_of_lt] <;> rw [BitVec.toNat_ofNat, Nat.mod_eq_of_lt] <;> omega

/-- A position's word, made an index, is itself: it is not negative. -/
theorem asIndex_at (v : IVec S16x1024 32) (n : Fin 16) (b k : Fin 1024) (h : v (ix2 n b) = BitVec.ofNat 32 k.val) :
    asIndex v (ix3 n b 0) = BitVec.ofNat 32 k.val := by
  pointwise [asIndex]
  rw [h]
  have hs : (BitVec.ofNat 32 k.val).slt 0#32 = false := by
    rw [BitVec.slt, word_toInt _ k.isLt.le]
    simp
  simp [Scalar.select, IntOp.cmpi, hs]

/-- The look-up of entries reads, at batch `n` and position `b`, the entry of batch `n` that the index names. -/
theorem entry (x : IVec S16x1024 32) (idx : IVec S16x1024x1 32) (n : Fin 16) (b k : Fin 1024)
    (h : idx (ix3 n b 0) = BitVec.ofNat 32 k.val) :
    Host.gather gather_S16x1024_S16x1024x1_S16x1024_n_1_0_0_1_2_11 x idx (ix2 n b) = x (ix2 n k) := by
  unfold Host.gather
  congr 1
  funext a
  apply Fin.ext
  match a with
  | ⟨0, _⟩ =>
    show GatherDims.start _ (ix2 n b) idx 0 + GatherDims.batchCoord _ (ix2 n b) 0 + GatherDims.offCoord _ (ix2 n b) 0 = n.val
    rw [GatherDims.start_batching _ _ _ _ (by decide), GatherDims.offCoord_eq_zero _ _ _ (by decide), Nat.zero_add, Nat.add_zero]
    rfl
  | ⟨1, _⟩ =>
    show GatherDims.start _ (ix2 n b) idx 1 + GatherDims.batchCoord _ (ix2 n b) 1 + GatherDims.offCoord _ (ix2 n b) 1 = k.val
    rw [GatherDims.batchCoord_eq_zero _ _ _ (by decide), GatherDims.offCoord_eq_zero _ _ _ (by decide), Nat.add_zero]
    unfold GatherDims.start
    rw [dif_pos (by decide)]
    have e : ∀ c, GatherDims.siIdx gather_S16x1024_S16x1024x1_S16x1024_n_1_0_0_1_2_11 (ix2 n b) c = ix3 n b 0 := by
      intro c
      funext d
      apply Fin.ext
      match d with
      | ⟨0, _⟩ => rfl
      | ⟨1, _⟩ => rfl
      | ⟨2, _⟩ => exact Nat.lt_one_iff.mp c.isLt
    rw [e, h, word_toInt _ k.isLt.le]
    show min k.val 1023 = k.val
    omega

/-- The look-up of rows reads, at batch `n`, position `b` and channel `c`, channel `c` of the row of batch `n` that the
    index names. -/
theorem row (x : FVec Ideal S16x1024x96 .f32) (idx : IVec S16x1024x1 32) (n : Fin 16) (b k : Fin 1024) (c : Fin 96)
    (h : idx (ix3 n b 0) = BitVec.ofNat 32 k.val) :
    Host.gather gather_S16x1024x96_S16x1024x1_S16x1024x96_2_1_0_0_1_2_1196 x idx (ix3 n b c) = x (ix3 n k c) := by
  unfold Host.gather
  congr 1
  funext a
  apply Fin.ext
  match a with
  | ⟨0, _⟩ =>
    show GatherDims.start _ (ix3 n b c) idx 0 + GatherDims.batchCoord _ (ix3 n b c) 0 + GatherDims.offCoord _ (ix3 n b c) 0 = n.val
    rw [GatherDims.start_batching _ _ _ _ (by decide), GatherDims.offCoord_eq_zero _ _ _ (by decide), Nat.zero_add, Nat.add_zero]
    rfl
  | ⟨1, _⟩ =>
    show GatherDims.start _ (ix3 n b c) idx 1 + GatherDims.batchCoord _ (ix3 n b c) 1 + GatherDims.offCoord _ (ix3 n b c) 1 = k.val
    rw [GatherDims.batchCoord_eq_zero _ _ _ (by decide), GatherDims.offCoord_eq_zero _ _ _ (by decide), Nat.add_zero]
    unfold GatherDims.start
    rw [dif_pos (by decide)]
    have e : ∀ l, GatherDims.siIdx gather_S16x1024x96_S16x1024x1_S16x1024x96_2_1_0_0_1_2_1196 (ix3 n b c) l = ix3 n b 0 := by
      intro l
      funext d
      apply Fin.ext
      match d with
      | ⟨0, _⟩ => rfl
      | ⟨1, _⟩ => rfl
      | ⟨2, _⟩ => exact Nat.lt_one_iff.mp l.isLt
    rw [e, h, word_toInt _ k.isLt.le]
    show min k.val 1023 = k.val
    omega
  | ⟨2, _⟩ =>
    show GatherDims.start _ (ix3 n b c) idx 2 + GatherDims.batchCoord _ (ix3 n b c) 2 + GatherDims.offCoord _ (ix3 n b c) 2 = c.val
    rw [GatherDims.batchCoord_eq_zero _ _ _ (by decide)]
    unfold GatherDims.start
    rw [dif_neg (by decide), Nat.zero_add]
    rfl

end Cert.RefGather

end
-- ==== Proof.RefValue.lean ====
/- The reference's value on extended reals: one batch's score, as the mathematics of `Score` writes it by positions. -/
module

public import proofs.«01_k».proof.Proof.RefGather
public import proofs.«01_k».proof.Proof.Score

@[expose] public section

set_option maxRecDepth 16384

noncomputable section

namespace Cert.RefValue

open Cert.ReferenceIdeal Cert.ReferenceIdeal.Gen Cert.RefRun Cert.RefGather
open Idealize.ShloMosaic

/-- Adding up ones over the members that pass a test, in words, counts them. -/
theorem fold_count (f : Fin 1024 → Prop) [DecidablePred f] (S : Finset (Fin 1024)) :
    Finset.fold IntOp.addi 0#32 (fun b => BitVec.setWidth 32 (BitVec.ofBool (decide (f b)))) S
      = BitVec.ofNat 32 (S.filter f).card := by
  induction S using Finset.induction_on with
  | empty => rfl
  | insert a S ha ih =>
    rw [Finset.fold_insert ha, ih, Finset.filter_insert]
    by_cases h : f a
    · rw [if_pos h, Finset.card_insert_of_notMem (fun hm => ha (Finset.mem_filter.mp hm).1), decide_eq_true h, Nat.add_comm,
        BitVec.ofNat_add]
      rfl
    · rw [if_neg h, decide_eq_false h]
      exact BitVec.zero_add _

/-- Two positions are equal when their words are. -/
theorem word_eq (a b : Fin 1024) : BitVec.ofNat 32 a.val = BitVec.ofNat 32 b.val ↔ b = a := by
  constructor
  · intro h
    have := congrArg BitVec.toNat h
    rw [BitVec.toNat_ofNat, BitVec.toNat_ofNat, Nat.mod_eq_of_lt (by omega), Nat.mod_eq_of_lt (by omega)] at this
    exact Fin.ext this.symm
  · rintro rfl; rfl

variable {r k : IVec S16x1024 32} {n : Fin 16} {r' k' : Fin 1024 → Fin 1024}

/-- Where position `b` is mutual. -/
theorem mutual_at (hr : ∀ b, r (ix2 n b) = BitVec.ofNat 32 (r' b).val) (hk : ∀ a, k (ix2 n a) = BitVec.ofNat 32 (k' a).val)
    (b : Fin 1024) : mutualAt r k (ix2 n b) = BitVec.ofBool (decide (k' (r' b) = b)) := by
  pointwise [mutualAt]
  rw [entry k (asIndex r) n b (r' b) (asIndex_at r n b (r' b) (hr b)), hk]
  simp only [IntOp.cmpi]
  rw [Bool.beq_eq_decide_eq, decide_eq_decide.mpr (word_eq _ _)]

/-- How many positions are mutual. -/
theorem count_at (hr : ∀ b, r (ix2 n b) = BitVec.ofNat 32 (r' b).val) (hk : ∀ a, k (ix2 n a) = BitVec.ofNat 32 (k' a).val) :
    countAll (mutualAt r k) (ix1 n) = BitVec.ofNat 32 (Score.mutualCount r' k') := by
  generalize hv : mutualAt r k = v
  have e : ∀ b, v (ix2 n b) = BitVec.ofBool (decide (k' (r' b) = b)) := fun b => hv ▸ mutual_at hr hk b
  pointwise [countAll]
  simp only [e]
  exact fold_count _ _

/-- The inner product of a position with its best match. -/
theorem match_at (q p : FVec Ideal S16x1024x96 .f32) (hr : ∀ b, r (ix2 n b) = BitVec.ofNat 32 (r' b).val) (b : Fin 1024) :
    matchAll (F := Ideal) q p r (ix2 n b) = ∑ c, (q (ix3 n b c) * p (ix3 n (r' b) c) : EReal) := by
  pointwise [matchAll]
  refine Finset.sum_congr rfl fun c _ => ?_
  rw [row p (asIndex r) n b (r' b) c (asIndex_at r n b (r' b) (hr b))]

/-- The sum over the positions that pass. -/
theorem masked_at (v : IVec S16x1024 1) (s : FVec Ideal S16x1024 .f32) (f : Fin 1024 → Prop) [DecidablePred f]
    (hv : ∀ b, v (ix2 n b) = BitVec.ofBool (decide (f b))) :
    maskedAll (F := Ideal) v s (ix1 n) = ∑ b, if f b then (s (ix2 n b) : EReal) else 0 := by
  pointwise [maskedAll]
  refine Finset.sum_congr rfl fun b _ => ?_
  rw [hv]
  by_cases h : f b
  · simp [h, Scalar.select]
  · rw [if_neg h, decide_eq_false h]
    exact Ideal.ofBits_zero_f32

/-- The mean at equal positions. -/
theorem plain_at (q p : FVec Ideal S16x1024x96 .f32) :
    plainAll (F := Ideal) q p (ix1 n) = Ideal.div (Score.plain (fun b c => q (ix3 n b c)) (fun a c => p (ix3 n a c)))
      (Ideal.ofBits .f32 0x44800000#32) := by
  pointwise [plainAll]
  rfl

/-- The choice, when the count is a number up to 1024. -/
theorem choose_at (w : IVec S16 32) (s f : FVec Ideal S16 .f32) (m : ℕ) (hm : m ≤ 1024) (hw : w (ix1 n) = BitVec.ofNat 32 m) :
    chooseAll (F := Ideal) w s f (ix1 n)
      = if 1 < m then Ideal.div (s (ix1 n)) ((max m 1 : ℕ) : EReal) else f (ix1 n) := by
  pointwise [chooseAll]
  rw [hw]
  have hs : (1#32).slt (BitVec.ofNat 32 m) = decide (1 < m) := by
    rw [BitVec.slt, word_toInt m hm, show (1#32).toInt = 1 by decide]
    exact decide_eq_decide.mpr (by omega)
  by_cases h : 1 < m
  · have hx : IntOp.maxsi (BitVec.ofNat 32 m) 1#32 = BitVec.ofNat 32 m := by
      rw [IntOp.maxsi, hs, decide_eq_true h, if_pos rfl]
    have hf : FloatOps.sitofp (F := Ideal) .f32 (BitVec.ofNat 32 m) = ((m : ℕ) : EReal) := by
      show (((BitVec.ofNat 32 m).toInt : ℝ) : EReal) = _
      rw [word_toInt m hm]
      simp
    rw [hx, hf, if_pos h, max_eq_left h.le]
    simp [Scalar.select, IntOp.cmpi, hs, h]
  · rw [if_neg h]
    simp [Scalar.select, IntOp.cmpi, hs, h]

/-- A batch's score from its best rows and columns. -/
theorem scoreOf_at (q p : FVec Ideal S16x1024x96 .f32) (hr : ∀ b, r (ix2 n b) = BitVec.ofNat 32 (r' b).val)
    (hk : ∀ a, k (ix2 n a) = BitVec.ofNat 32 (k' a).val) :
    scoreOf (F := Ideal) q p r k (ix1 n)
      = Score.byPositions (fun b c => q (ix3 n b c)) (fun a c => p (ix3 n a c)) r' k' := by
  have hm : Score.mutualCount r' k' ≤ 1024 := (Finset.card_le_univ _).trans_eq (Fintype.card_fin _)
  unfold scoreOf Score.byPositions
  rw [choose_at _ _ _ _ hm (count_at hr hk), masked_at _ _ _ (mutual_at hr hk), plain_at]
  simp only [match_at q p hr]

end Cert.RefValue

end
-- ==== Proof.PreFacts.lean ====
/- What the precondition says of one batch's matrix of inner products: every entry that is the largest of its row, or of
   its column, stands where the arg-max points. -/
module

public import proofs.«01_k».proof.Proof.Gen.Pre_maxima_attained_once
public import proofs.«01_k».proof.Proof.ArgMax
public import proofs.«01_k».proof.Proof.RefValue

@[expose] public section

set_option maxRecDepth 16384

noncomputable section

namespace Cert.PreFacts

open Idealize.ShloMosaic
open Cert.Pre_maxima_attained_once Cert.Pre_maxima_attained_once.Gen

/-- The test over rows, of a matrix and the columns its rows point at: an entry is not the largest of its row, or the row
    points at its column. -/
def rowTest (M : FVec Ideal S16x1024x1024 .f32) (k : IVec S16x1024 32) : IVec S16x1024x1024 1 :=
  ori
    (cmpf .une M (broadcastInDim S16x1024x1024 ![0, 1, 2] bcast_S16x1024x1_S16x1024x1024_0_1_2
      (broadcastInDim S16x1024x1 ![0, 1] bcast_S16x1024_S16x1024x1_0_1
        (Host.reduce FloatOps.maximumf M (constant S_ .f32 0xFF800000#32) reducesTo_S16x1024x1024_S16x1024_d2 h_S_))))
    (cmpi .eq
      (broadcastInDim S16x1024x1024 ![0, 1, 2] bcast_S1x1x1024_S16x1024x1024_0_1_2
        (broadcastInDim S1x1x1024 ![2] bcast_S1024_S1x1x1024_2 (iotaInDim S1024 32 0)))
      (broadcastInDim S16x1024x1024 ![0, 1, 2] bcast_S16x1024x1_S16x1024x1024_0_1_2
        (broadcastInDim S16x1024x1 ![0, 1] bcast_S16x1024_S16x1024x1_0_1 k)))

/-- The test over columns, of a matrix and the rows its columns point at. -/
def colTest (M : FVec Ideal S16x1024x1024 .f32) (r : IVec S16x1024 32) : IVec S16x1024x1024 1 :=
  ori
    (cmpf .une M (broadcastInDim S16x1024x1024 ![0, 1, 2] bcast_S16x1x1024_S16x1024x1024_0_1_2
      (broadcastInDim S16x1x1024 ![0, 2] bcast_S16x1024_S16x1x1024_0_2
        (Host.reduce FloatOps.maximumf M (constant S_ .f32 0xFF800000#32) reducesTo_S16x1024x1024_S16x1024_d1 h_S_))))
    (cmpi .eq
      (broadcastInDim S16x1024x1024 ![0, 1, 2] bcast_S1x1024x1_S16x1024x1024_0_1_2
        (broadcastInDim S1x1024x1 ![1] bcast_S1024_S1x1024x1_1 (iotaInDim S1024 32 0)))
      (broadcastInDim S16x1024x1024 ![0, 1, 2] bcast_S16x1x1024_S16x1024x1024_0_1_2
        (broadcastInDim S16x1x1024 ![0, 2] bcast_S16x1024_S16x1x1024_0_2 r)))

/-- The precondition's row pointers are the reference's best columns. -/
theorem argmax_row : fn_argmax (F := Ideal) = RefRun.bestCol (F := Ideal) := by
  delta fn_argmax RefRun.bestCol
  exact Eq.refl _

/-- The precondition's column pointers are the reference's best rows. -/
theorem argmax_col : fn_argmax_0 (F := Ideal) = RefRun.bestRow (F := Ideal) := by
  delta fn_argmax_0 RefRun.bestRow
  exact Eq.refl _

/-- The precondition's first array is the test over rows. -/
theorem fn_fst (f1 f2 : FVec Ideal S16x32x32x96 .f32) : (fn (F := Ideal) f1 f2).1
    = rowTest (RefRun.simAll (RefRun.flat f1) (RefRun.flat f2)) (fn_argmax (F := Ideal) (RefRun.simAll (RefRun.flat f1) (RefRun.flat f2))) := by
  delta fn fn_part1 rowTest RefRun.simAll RefRun.flat
  exact Eq.refl _

/-- Its second array is the test over columns. -/
theorem fn_snd (f1 f2 : FVec Ideal S16x32x32x96 .f32) : (fn (F := Ideal) f1 f2).2
    = colTest (RefRun.simAll (RefRun.flat f1) (RefRun.flat f2)) (fn_argmax_0 (F := Ideal) (RefRun.simAll (RefRun.flat f1) (RefRun.flat f2))) := by
  delta fn fn_part1 colTest RefRun.simAll RefRun.flat
  exact Eq.refl _

/-- A test that passes though its first part fails compares equal positions. -/
theorem settle {s : Prop} [Decidable s] (hs : ¬ s) (a b : Fin 1024) :
    IntOp.ori (BitVec.ofBool (decide s)) (IntOp.cmpi .eq (BitVec.ofNat 32 a.val) (BitVec.ofNat 32 b.val)) = 1#1 → a = b := by
  intro h
  rw [decide_eq_false hs] at h
  by_contra hne
  have hw : ¬ BitVec.ofNat 32 a.val = BitVec.ofNat 32 b.val := fun e => hne ((RefValue.word_eq a b).mp e).symm
  simp [IntOp.ori, IntOp.cmpi] at h
  rw [beq_eq_false_iff_ne.mpr hw] at h
  exact absurd h (by decide)

/-- Where the row test holds, an entry that is the largest of its row stands in the column pointed at. -/
theorem rowTest_at (M : FVec Ideal S16x1024x1024 .f32) (k : IVec S16x1024 32) (n : Fin 16) (a b k' : Fin 1024)
    (hk : k (ix2 n a) = BitVec.ofNat 32 k'.val) (h : rowTest M k (ix3 n a b) = 1#1)
    (e : M (ix3 n a b) = Finset.univ.sup fun b => (M (ix3 n a b) : EReal)) : b = k' := by
  revert h
  pointwise [rowTest]
  rw [hk]
  rw [ArgMax.ninf, show Finset.fold max ⊥ (fun x => (M (ix3 n a x) : EReal)) Finset.univ = Finset.univ.sup fun b => (M (ix3 n a b) : EReal) from rfl]
  exact settle (fun h => h e) b k'

/-- Where the column test holds, an entry that is the largest of its column stands in the row pointed at. -/
theorem colTest_at (M : FVec Ideal S16x1024x1024 .f32) (r : IVec S16x1024 32) (n : Fin 16) (a b r' : Fin 1024)
    (hr : r (ix2 n b) = BitVec.ofNat 32 r'.val) (h : colTest M r (ix3 n a b) = 1#1)
    (e : M (ix3 n a b) = Finset.univ.sup fun a => (M (ix3 n a b) : EReal)) : a = r' := by
  revert h
  pointwise [colTest]
  rw [hr]
  rw [ArgMax.ninf, show Finset.fold max ⊥ (fun x => (M (ix3 n x b) : EReal)) Finset.univ = Finset.univ.sup fun a => (M (ix3 n a b) : EReal) from rfl]
  exact settle (fun h => h e) a r'

/-- The matrix of a batch, entry by entry. -/
theorem sim_at (q p : FVec Ideal S16x1024x96 .f32) (n : Fin 16) (a b : Fin 1024) :
    RefRun.simAll (F := Ideal) q p (ix3 n a b) = Score.sim (fun b c => q (ix3 n b c)) (fun a c => p (ix3 n a c)) a b := by
  pointwise [RefRun.simAll]
  rfl

/-- Under the precondition, the best rows and columns are positions, and the only places of their largest entries. -/
theorem alone (f1 f2 : FVec Ideal S16x32x32x96 .f32)
    (h : (fn (F := Ideal) f1 f2).1 = (fun _ => 1#1) ∧ (fn (F := Ideal) f1 f2).2 = (fun _ => 1#1)) (n : Fin 16) :
    ∃ r' k' : Fin 1024 → Fin 1024,
      (∀ b, RefRun.bestRow (RefRun.simAll (RefRun.flat f1) (RefRun.flat f2)) (ix2 n b) = BitVec.ofNat 32 (r' b).val)
      ∧ (∀ a, RefRun.bestCol (RefRun.simAll (RefRun.flat f1) (RefRun.flat f2)) (ix2 n a) = BitVec.ofNat 32 (k' a).val)
      ∧ Score.Alone (Score.sim (fun b c => RefRun.flat f1 (ix3 n b c)) (fun a c => RefRun.flat f2 (ix3 n a c))) r' k' := by
  obtain ⟨h1, h2⟩ := h
  rw [fn_fst, argmax_row] at h1
  rw [fn_snd, argmax_col] at h2
  have hM : ∀ a b, RefRun.simAll (RefRun.flat f1) (RefRun.flat f2) (ix3 n a b)
      = Score.sim (fun b c => RefRun.flat f1 (ix3 n b c)) (fun a c => RefRun.flat f2 (ix3 n a c)) a b :=
    sim_at (RefRun.flat f1) (RefRun.flat f2) n
  generalize RefRun.simAll (RefRun.flat f1) (RefRun.flat f2) = M at *
  generalize Score.sim (fun b c => RefRun.flat f1 (ix3 n b c)) (fun a c => RefRun.flat f2 (ix3 n a c)) = N at *
  choose r' hr hr' using ArgMax.bestRow_spec M n
  choose k' hk hk' using ArgMax.bestCol_spec M n
  refine ⟨r', k', hr, hk, ?_, ?_, ?_, ?_⟩
  · intro b
    have := hr' b
    simp only [hM] at this
    exact this
  · intro a
    have := hk' a
    simp only [hM] at this
    exact this
  · intro a b e
    refine colTest_at M _ n a b (r' b) (hr b) (congrFun h2 (ix3 n a b)) ?_
    simp only [hM]
    exact e
  · intro a b e
    refine rowTest_at M _ n a b (k' a) (hk a) (congrFun h1 (ix3 n a b)) ?_
    simp only [hM]
    exact e

end Cert.PreFacts

end
-- ==== Proof.Equal.lean ====
/- The value equation: under the precondition the launch's array and the reference's array are equal, batch by batch. -/
module

public import proofs.«01_k».proof.Proof.KValue
public import proofs.«01_k».proof.Proof.PreFacts

@[expose] public section

set_option maxRecDepth 16384

noncomputable section

namespace Cert.Equal

open Idealize.ShloMosaic
open Cert.KernelIdeal Cert.KernelIdeal.Gen

/-- A column read as a flat vector. -/
theorem flatten (C : FVec Ideal S16x1 .f32) (n : Fin 16) : shapeCast S16 C shapeCasts_S16x1_S16 (ix1 n) = C (ix2 n 0) := by
  pointwise []

/-- The launch's entry for batch `n`, by comparison of maxima. -/
theorem launch_at (f1 f2 : FVec Ideal S16x32x32x96 .f32) (n : Fin 16) :
    KRun.result (F := Ideal) f1 f2 (ix1 n)
      = Score.byMaxima (fun b c => RefRun.flat f1 (ix3 n b c)) (fun a c => RefRun.flat f2 (ix3 n a c)) := by
  unfold KRun.result
  rw [flatten]
  exact KValue.score1_eq _ _

/-- The two arrays are equal. -/
theorem equal (f1 f2 : FVec Ideal S16x32x32x96 .f32)
    (h : (Cert.Pre_maxima_attained_once.fn (F := Ideal) f1 f2).1 = (fun _ => 1#1)
      ∧ (Cert.Pre_maxima_attained_once.fn (F := Ideal) f1 f2).2 = (fun _ => 1#1)) :
    KRun.result (F := Ideal) f1 f2 = RefRun.scoreAll (F := Ideal) (RefRun.flat f1) (RefRun.flat f2) := by
  funext j
  obtain ⟨n, rfl⟩ : ∃ n, j = ix1 n := ⟨j 0, eq_ix1 j⟩
  obtain ⟨r', k', hr, hk, ha⟩ := PreFacts.alone f1 f2 h n
  rw [launch_at, Score.agree _ _ ha]
  exact (RefValue.scoreOf_at (RefRun.flat f1) (RefRun.flat f2) hr hk).symm

end Cert.Equal

end
-- ==== Proof.lean ====
/- The claims, assembled. The frames are read off the runs, the one over bits through `Same`; the value claim joins the
   runs by `Equal.equal`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_maxima_attained_once
public import proofs.«01_k».proof.Proof.KRun
public import proofs.«01_k».proof.Proof.Same
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem

/-- The kernel over bits runs, keeps its arguments and ends at rest. -/
theorem bits_frame : quiescent_Kernel := fun m ρ _ => Same.frame m ρ

/-- The kernel over extended reals runs, keeps its arguments and ends at rest. -/
theorem kernel_frame : quiescent_KernelIdeal := fun m ρ _ =>
  (θ_run _ _ _).mono (fun _ h => ⟨fun c => (h.1 c).2, h.2⟩) (KRun.run m ρ)

/-- The reference over extended reals runs, keeps its arguments and ends at rest. -/
theorem reference_frame : quiescent_ReferenceIdeal := fun m ρ _ =>
  (θ_run _ _ _).mono (fun r h => ⟨fun c => (h c).2, sem_eq_zero_of_no_sems (by decide) r.2⟩) (RefRun.run m ρ)

/-- Under the precondition the kernel and the reference end at equal arrays. -/
theorem value : algebraic_KernelIdeal_ReferenceIdeal_pre_maxima_attained_once := by
  intro m ρ m' ρ' hp ha
  refine ⟨fun c => KRun.result (F := Ideal) (m (c.tc.loc Cert.KernelIdeal.main_arg0)) (m (c.tc.loc Cert.KernelIdeal.main_arg1)), ?_, ?_⟩
  · exact (θ_run _ _ _).mono (fun _ h => h.1) (KRun.run m ρ)
  · refine (θ_run _ _ _).mono (fun r h c => ⟨?_, (h c).2⟩) (RefRun.run m' ρ')
    have e := Equal.equal (m (c.tc.loc Cert.KernelIdeal.main_arg0)) (m (c.tc.loc Cert.KernelIdeal.main_arg1)) (hp c)
    refine (h c).1.trans ?_
    rw [(ha c).1, (ha c).2]
    exact e.symm

/-- All the claims. -/
theorem claim : Cert.Claim :=
  ⟨Cert.Kernel.Gen.facts, Cert.KernelIdeal.Gen.facts, Cert.ReferenceIdeal.Gen.facts, Cert.Pre_maxima_attained_once.Gen.facts,
    bits_frame, kernel_frame, fun m ρ _ => kernel_frame m ρ trivial, reference_frame,
    fun m ρ _ => reference_frame m ρ trivial, trivial, value⟩

end Cert.Proof

end
